-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_weights [hPre_finite_weights : Cert.Pre_finite_weights.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_weights.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 = (fun _ => 1#1)
    ∧ (Cert.Pre_finite_weights.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_weights [hPre_finite_weights : Cert.Pre_finite_weights.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_weights.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).1 = (fun _ => 1#1)
    ∧ (Cert.Pre_finite_weights.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite_weights [hKernel10Ideal : Cert.Kernel10Ideal.Facts] [hPre_finite_weights : Cert.Pre_finite_weights.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_weights m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite_weights [hReference10Ideal : Cert.Reference10Ideal.Facts] [hPre_finite_weights : Cert.Pre_finite_weights.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_weights m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite_weights [hKernel10Ideal : Cert.Kernel10Ideal.Facts] [hReference10Ideal : Cert.Reference10Ideal.Facts] [hPre_finite_weights : Cert.Pre_finite_weights.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_weights m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_scores : Cert.Pre_finite_scores.Facts) (hPre_finite_weights : Cert.Pre_finite_weights.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_weights (hKernel10Ideal := hKernel10Ideal) (hPre_finite_weights := hPre_finite_weights)
    ∧ quiescent_Reference10Ideal (hReference10Ideal := hReference10Ideal)
    ∧ quiescent_Reference10Ideal_pre_finite_weights (hReference10Ideal := hReference10Ideal) (hPre_finite_weights := hPre_finite_weights)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_weights (hKernel10Ideal := hKernel10Ideal) (hReference10Ideal := hReference10Ideal) (hPre_finite_weights := hPre_finite_weights)
-- ==== Pre_finite_scores.lean ====
abbrev S16384x1536 : Shape := ⟨2, ![16384, 1536]⟩
abbrev S16384x8 : Shape := ⟨2, ![16384, 8]⟩
abbrev S16384x1024 : Shape := ⟨2, ![16384, 1024]⟩
abbrev S_ : Shape := ⟨0, ![]⟩

class Facts : Prop where
  slices_S16384x1536_S16384x1024_0_0 : S16384x1536.Slices ![0, 0] S16384x1024
  bitsLt_bf16_f32 : FTy.bits .bf16 < FTy.bits .f32
  bcast_S_S16384x1024 : S_.BroadcastsInDim S16384x1024 (![] : Fin 0 → Fin S16384x1024.rank)
  bcast_S_S16384x8 : S_.BroadcastsInDim S16384x8 (![] : Fin 0 → Fin S16384x8.rank)

variable [Facts]

def fn {F : FTy → Type} [FloatOps F] (main_arg0 : FVec F S16384x1536 .bf16) (main_arg1 : FVec F S16384x8 .f32) : IVec S16384x1024 1 × IVec S16384x8 1 :=
  let main_v0 : FVec F S16384x1024 .bf16 := (extractStridedSlice S16384x1024 ![0, 0] · slices_S16384x1536_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S16384x8 .f32 := Host.absf main_arg1
  let main_cst_0 : FVec F S_ .f32 := constant S_ .f32 0x7F800000#32
  let main_v6 : FVec F S16384x8 .f32 := broadcastInDim S16384x8 ![] bcast_S_S16384x8 main_cst_0
  let main_v7 : IVec S16384x8 1 := cmpf .olt main_v5 main_v6
  (main_v4, main_v7)
-- ==== Pre_finite_weights.lean ====
abbrev S2x2x16384x64 : Shape := ⟨4, ![2, 2, 16384, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S_ : Shape := ⟨0, ![]⟩

class Facts : Prop where
  bcast_S_S2x32x64 : S_.BroadcastsInDim S2x32x64 (![] : Fin 0 → Fin S2x32x64.rank)
  bcast_S_S2x2048x256 : S_.BroadcastsInDim S2x2048x256 (![] : Fin 0 → Fin S2x2048x256.rank)

variable [Facts]

def fn {F : FTy → Type} [FloatOps F] (main_arg0 : FVec F S2x2x16384x64 .bf16) (main_arg1 : FVec F S2x32x64 .f32) (main_arg2 : FVec F S2x2048x256 .f32) (main_arg3 : FVec F S2x256 .f32) (main_arg4 : FVec F S2x256x64 .f32) : IVec S2x32x64 1 × IVec S2x2048x256 1 :=
  let main_v0 : FVec F S2x32x64 .f32 := Host.absf main_arg1
  let main_cst : FVec F S_ .f32 := constant S_ .f32 0x7F800000#32
  let main_v1 : FVec F S2x32x64 .f32 := broadcastInDim S2x32x64 ![] bcast_S_S2x32x64 main_cst
  let main_v2 : IVec S2x32x64 1 := cmpf .olt main_v0 main_v1
  let main_v3 : FVec F S2x2048x256 .f32 := Host.absf main_arg2
  let main_cst_0 : FVec F S_ .f32 := constant S_ .f32 0x7F800000#32
  let main_v4 : FVec F S2x2048x256 .f32 := broadcastInDim S2x2048x256 ![] bcast_S_S2x2048x256 main_cst_0
  let main_v5 : IVec S2x2048x256 1 := cmpf .olt main_v3 main_v4
  (main_v2, main_v5)
-- ==== Kernel.lean ====
abbrev S16384x1536 : Shape := ⟨2, ![16384, 1536]⟩
abbrev S16384x8 : Shape := ⟨2, ![16384, 8]⟩
abbrev S16384x3x8x64 : Shape := ⟨4, ![16384, 3, 8, 64]⟩
abbrev S3x8x16384x64 : Shape := ⟨4, ![3, 8, 16384, 64]⟩
abbrev S8x16384 : Shape := ⟨2, ![8, 16384]⟩
abbrev S8x16384x1 : Shape := ⟨3, ![8, 16384, 1]⟩
abbrev S8x1x16384 : Shape := ⟨3, ![8, 1, 16384]⟩
abbrev S1x8x16384x64 : Shape := ⟨4, ![1, 8, 16384, 64]⟩
abbrev S8x16384x64 : Shape := ⟨3, ![8, 16384, 64]⟩
abbrev S8x64x16384 : Shape := ⟨3, ![8, 64, 16384]⟩
abbrev S4x2x16384x64 : Shape := ⟨4, ![4, 2, 16384, 64]⟩
abbrev S4x16384x2x64 : Shape := ⟨4, ![4, 16384, 2, 64]⟩
abbrev S4x16384x128 : Shape := ⟨3, ![4, 16384, 128]⟩
abbrev S1x512x64 : Shape := ⟨3, ![1, 512, 64]⟩
abbrev S1x64x16384 : Shape := ⟨3, ![1, 64, 16384]⟩
abbrev S1x16384x128 : Shape := ⟨3, ![1, 16384, 128]⟩
abbrev S1x512x1 : Shape := ⟨3, ![1, 512, 1]⟩
abbrev S1x1x16384 : Shape := ⟨3, ![1, 1, 16384]⟩
abbrev S512x1 : Shape := ⟨2, ![512, 1]⟩
abbrev S512x128 : Shape := ⟨2, ![512, 128]⟩
abbrev S512x64 : Shape := ⟨2, ![512, 64]⟩
abbrev S1x64x512 : Shape := ⟨3, ![1, 64, 512]⟩
abbrev S64x512 : Shape := ⟨2, ![64, 512]⟩
abbrev S512x512 : Shape := ⟨2, ![512, 512]⟩
abbrev S1x1x512 : Shape := ⟨3, ![1, 1, 512]⟩
abbrev S1x512 : Shape := ⟨2, ![1, 512]⟩
abbrev S1x512x128 : Shape := ⟨3, ![1, 512, 128]⟩
abbrev S512 : Shape := ⟨1, ![512]⟩

abbrev nBuf : Space → Nat
  | .hbm => 19
  | .vmem => 13
  | .smem => 0
  | _ => 0

abbrev bufTy : (tb : Table) → Fin (tcTables nBuf tb) → BufTy
  | .hbm, ⟨0, _⟩ => ⟨S16384x1536, .bf16⟩
  | .hbm, ⟨1, _⟩ => ⟨S16384x8, .f32⟩
  | .hbm, ⟨2, _⟩ => ⟨S16384x3x8x64, .bf16⟩
  | .hbm, ⟨3, _⟩ => ⟨S3x8x16384x64, .bf16⟩
  | .hbm, ⟨4, _⟩ => ⟨S8x16384, .f32⟩
  | .hbm, ⟨5, _⟩ => ⟨S8x16384x1, .f32⟩
  | .hbm, ⟨6, _⟩ => ⟨S8x16384, .f32⟩
  | .hbm, ⟨7, _⟩ => ⟨S8x1x16384, .f32⟩
  | .hbm, ⟨8, _⟩ => ⟨S1x8x16384x64, .bf16⟩
  | .hbm, ⟨9, _⟩ => ⟨S8x16384x64, .bf16⟩
  | .hbm, ⟨10, _⟩ => ⟨S8x64x16384, .bf16⟩
  | .hbm, ⟨11, _⟩ => ⟨S1x8x16384x64, .bf16⟩
  | .hbm, ⟨12, _⟩ => ⟨S8x16384x64, .bf16⟩
  | .hbm, ⟨13, _⟩ => ⟨S4x2x16384x64, .bf16⟩
  | .hbm, ⟨14, _⟩ => ⟨S4x16384x2x64, .bf16⟩
  | .hbm, ⟨15, _⟩ => ⟨S4x16384x128, .bf16⟩
  | .hbm, ⟨16, _⟩ => ⟨S1x8x16384x64, .bf16⟩
  | .hbm, ⟨17, _⟩ => ⟨S8x16384x64, .bf16⟩
  | .hbm, ⟨18, _⟩ => ⟨S8x16384x64, .bf16⟩
  | .local _ .vmem, ⟨0, _⟩ => ⟨S1x512x64, .bf16⟩
  | .local _ .vmem, ⟨1, _⟩ => ⟨S1x512x64, .bf16⟩
  | .local _ .vmem, ⟨2, _⟩ => ⟨S1x64x16384, .bf16⟩
  | .local _ .vmem, ⟨3, _⟩ => ⟨S1x16384x128, .bf16⟩
  | .local _ .vmem, ⟨4, _⟩ => ⟨S1x512x1, .f32⟩
  | .local _ .vmem, ⟨5, _⟩ => ⟨S1x512x1, .f32⟩
  | .local _ .vmem, ⟨6, _⟩ => ⟨S1x1x16384, .f32⟩
  | .local _ .vmem, ⟨7, _⟩ => ⟨S1x1x16384, .f32⟩
  | .local _ .vmem, ⟨8, _⟩ => ⟨S1x512x64, .bf16⟩
  | .local _ .vmem, ⟨9, _⟩ => ⟨S1x512x64, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_14 : BitVec 32 := 1#32
  ⟨c0_i32_13, v20, c1_i32_14⟩
def k0_mult1 (i : grid0.Coords) (k0_t1 : Fin (k0_t1_loop i).trips) : BitVec 32 :=
  let c0_i32_13 : BitVec 32 := 0#32
  let c1_i32_14 : BitVec 32 := 1#32
  let arg11 : BitVec 32 := Scf.iv c0_i32_13 c1_i32_14 k0_t1
  let c512_i32_53 : BitVec 32 := 512#32
  let v92 : BitVec 32 := Scalar.muli arg11 c512_i32_53
  v92
def k0_off1 (i : grid0.Coords) (k0_t1 : Fin (k0_t1_loop i).trips) : Fin 3 → Nat :=
  let c0_54 : Index := 0#32
  let c0_55 : Index := 0#32
  let c0_i32_13 : BitVec 32 := 0#32
  let c1_i32_14 : BitVec 32 := 1#32
  let arg11 : BitVec 32 := Scf.iv c0_i32_13 c1_i32_14 k0_t1
  let c512_i32_53 : BitVec 32 := 512#32
  let v92 : BitVec 32 := Scalar.muli arg11 c512_i32_53
  let v93 : BitVec 32 := v92
  let v94 : Index := Scalar.indexCast v93
  ![0, 0, v94.toNat]
def k0_off2 (i : grid0.Coords) (k0_t1 : Fin (k0_t1_loop i).trips) : Fin 3 → Nat :=
  let c0_57 : Index := 0#32
  let c0_58 : Index := 0#32
  let c0_i32_13 : BitVec 32 := 0#32
  let c1_i32_14 : BitVec 32 := 1#32
  let arg11 : BitVec 32 := Scf.iv c0_i32_13 c1_i32_14 k0_t1
  let c512_i32_53 : BitVec 32 := 512#32
  let v92 : BitVec 32 := Scalar.muli arg11 c512_i32_53
  let v93 : BitVec 32 := v92
  let v100 : Index := Scalar.indexCast v93
  ![0, 0, v100.toNat]
def k0_off3 (i : grid0.Coords) (k0_t1 : Fin (k0_t1_loop i).trips) : Fin 3 → Nat :=
  let c0_59 : Index := 0#32
  let c0_i32_13 : BitVec 32 := 0#32
  let c1_i32_14 : BitVec 32 := 1#32
  let arg11 : BitVec 32 := Scf.iv c0_i32_13 c1_i32_14 k0_t1
  let c512_i32_53 : BitVec 32 := 512#32
  let v92 : BitVec 32 := Scalar.muli arg11 c512_i32_53
  let v93 : BitVec 32 := v92
  let v105 : Index := Scalar.indexCast v93
  let c0_60 : Index := 0#32
  ![0, v105.toNat, 0]
@[reducible] def k0_t2_loop (i : grid0.Coords) : Scf.Loop 32 :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let v17 : BitVec 32 := Scalar.addi c0_i32_13 v16
  let c1_i32_15 : BitVec 32 := 1#32
  ⟨v20, v17, c1_i32_15⟩
def k0_mult2 (i : grid0.Coords) (k0_t2 : Fin (k0_t2_loop i).trips) : BitVec 32 :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg11 : BitVec 32 := Scf.iv v20 c1_i32_15 k0_t2
  let c512_i32_53 : BitVec 32 := 512#32
  let v92 : BitVec 32 := Scalar.muli arg11 c512_i32_53
  v92
def k0_off4 (i : grid0.Coords) (k0_t2 : Fin (k0_t2_loop i).trips) : Fin 3 → Nat :=
  let c0_54 : Index := 0#32
  let c0_55 : Index := 0#32
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg11 : BitVec 32 := Scf.iv v20 c1_i32_15 k0_t2
  let c512_i32_53 : BitVec 32 := 512#32
  let v92 : BitVec 32 := Scalar.muli arg11 c512_i32_53
  let v93 : BitVec 32 := v92
  let v94 : Index := Scalar.indexCast v93
  ![0, 0, v94.toNat]
def k0_off5 (i : grid0.Coords) (k0_t2 : Fin (k0_t2_loop i).trips) : Fin 3 → Nat :=
  let c0_57 : Index := 0#32
  let c0_58 : Index := 0#32
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg11 : BitVec 32 := Scf.iv v20 c1_i32_15 k0_t2
  let c512_i32_53 : BitVec 32 := 512#32
  let v92 : BitVec 32 := Scalar.muli arg11 c512_i32_53
  let v93 : BitVec 32 := v92
  let v100 : Index := Scalar.indexCast v93
  ![0, 0, v100.toNat]
def k0_off6 (i : grid0.Coords) (k0_t2 : Fin (k0_t2_loop i).trips) : Fin 3 → Nat :=
  let c0_59 : Index := 0#32
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg11 : BitVec 32 := Scf.iv v20 c1_i32_15 k0_t2
  let c512_i32_53 : BitVec 32 := 512#32
  let v92 : BitVec 32 := Scalar.muli arg11 c512_i32_53
  let v93 : BitVec 32 := v92
  let v105 : Index := Scalar.indexCast v93
  let c0_60 : Index := 0#32
  ![0, v105.toNat, 0]
def k0_mult3 (i : grid0.Coords) : BitVec 32 :=
  let arg1 : BitVec 32 := BitVec.ofNat 32 (i 1).val
  let c512_i32 : BitVec 32 := 512#32
  let v21 : BitVec 32 := Scalar.muli arg1 c512_i32
  v21
def k0_off7 (i : grid0.Coords) : Fin 3 → Nat :=
  let c0_16 : Index := 0#32
  let c0_17 : Index := 0#32
  let arg1 : BitVec 32 := BitVec.ofNat 32 (i 1).val
  let c512_i32 : BitVec 32 := 512#32
  let v21 : BitVec 32 := Scalar.muli arg1 c512_i32
  let v22 : BitVec 32 := v21
  let v23 : Index := Scalar.indexCast v22
  ![0, 0, v23.toNat]
def k0_off8 (i : grid0.Coords) : Fin 3 → Nat :=
  let c0_19 : Index := 0#32
  let c0_20 : Index := 0#32
  let arg1 : BitVec 32 := BitVec.ofNat 32 (i 1).val
  let c512_i32 : BitVec 32 := 512#32
  let v21 : BitVec 32 := Scalar.muli arg1 c512_i32
  let v22 : BitVec 32 := v21
  let v29 : Index := Scalar.indexCast v22
  ![0, 0, v29.toNat]
def k0_off9 (i : grid0.Coords) : Fin 3 → Nat :=
  let c0_22 : Index := 0#32
  let arg1 : BitVec 32 := BitVec.ofNat 32 (i 1).val
  let c512_i32 : BitVec 32 := 512#32
  let v21 : BitVec 32 := Scalar.muli arg1 c512_i32
  let v22 : BitVec 32 := v21
  let v39 : Index := Scalar.indexCast v22
  let c0_23 : Index := 0#32
  ![0, v39.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x1536 : Shape := ⟨2, ![16384, 1536]⟩
abbrev S16384x8 : Shape := ⟨2, ![16384, 8]⟩
abbrev S16384x512 : Shape := ⟨2, ![16384, 512]⟩
abbrev S16384x8x64 : Shape := ⟨3, ![16384, 8, 64]⟩
abbrev S8x16384x64 : Shape := ⟨3, ![8, 16384, 64]⟩
abbrev S8x16384 : Shape := ⟨2, ![8, 16384]⟩
abbrev S16384 : Shape := ⟨1, ![16384]⟩
abbrev S8x16384x16384 : Shape := ⟨3, ![8, 16384, 16384]⟩
abbrev S8x16384x1 : Shape := ⟨3, ![8, 16384, 1]⟩
abbrev S8x1x16384 : Shape := ⟨3, ![8, 1, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x16384x1 : Shape := ⟨3, ![1, 16384, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x8, .f32⟩
  | .hbm, ⟨2, _⟩ => ⟨S16384x1536, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x8x64, .f32⟩
  | .hbm, ⟨7, _⟩ => ⟨S8x16384x64, .f32⟩
  | .hbm, ⟨8, _⟩ => ⟨S16384x8x64, .f32⟩
  | .hbm, ⟨9, _⟩ => ⟨S8x16384x64, .f32⟩
  | .hbm, ⟨10, _⟩ => ⟨S16384x8x64, .f32⟩
  | .hbm, ⟨11, _⟩ => ⟨S8x16384x64, .f32⟩
  | .hbm, ⟨12, _⟩ => ⟨S8x16384, .f32⟩
  | .hbm, ⟨13, _⟩ => ⟨S16384, .i32⟩
  | .hbm, ⟨14, _⟩ => ⟨S8x16384x16384, .f32⟩
  | .hbm, ⟨15, _⟩ => ⟨S8x16384x1, .f32⟩
  | .hbm, ⟨16, _⟩ => ⟨S8x1x16384, .f32⟩
  | .hbm, ⟨17, _⟩ => ⟨S8x16384x16384, .f32⟩
  | .hbm, ⟨18, _⟩ => ⟨S8x16384x16384, .f32⟩
  | .hbm, ⟨19, _⟩ => ⟨S8x16384x16384, .f32⟩
  | .hbm, ⟨20, _⟩ => ⟨S8x16384x16384, .f32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S_, .f32⟩
  | .hbm, ⟨27, _⟩ => ⟨S_, .f32⟩
  | .hbm, ⟨28, _⟩ => ⟨S8x16384x16384, .i1⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S8x16384, .f32⟩
  | .hbm, ⟨33, _⟩ => ⟨S_, .f32⟩
  | .hbm, ⟨34, _⟩ => ⟨S8x16384, .f32⟩
  | .hbm, ⟨35, _⟩ => ⟨S8x16384, .f32⟩
  | .hbm, ⟨36, _⟩ => ⟨S8x16384x1, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S8x16384, .f32⟩
  | .hbm, ⟨42, _⟩ => ⟨S8x16384x1, .f32⟩
  | .hbm, ⟨43, _⟩ => ⟨S8x16384x16384, .f32⟩
  | .hbm, ⟨44, _⟩ => ⟨S8x16384x16384, .f32⟩
  | .hbm, ⟨45, _⟩ => ⟨S_, .i1⟩
  | .hbm, ⟨46, _⟩ => ⟨S16384, .i1⟩
  | .hbm, ⟨47, _⟩ => ⟨S16384x1, .i1⟩
  | .hbm, ⟨48, _⟩ => ⟨S16384x1, .f32⟩
  | .hbm, ⟨49, _⟩ => ⟨S1x16384x1, .f32⟩
  | .hbm, ⟨50, _⟩ => ⟨S8x16384x16384, .f32⟩
  | .hbm, ⟨51, _⟩ => ⟨S8x16384x16384, .f32⟩
  | .hbm, ⟨52, _⟩ => ⟨S8x16384x64, .f32⟩
  | .hbm, ⟨53, _⟩ => ⟨S8x16384x64, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]

def κ : String → Option EReal := fun
  | "mask" => some ⊥
  | _ => none
-- ==== Kernel2.lean ====
abbrev S16384x2048 : Shape := ⟨2, ![16384, 2048]⟩
abbrev S2048x6944 : Shape := ⟨2, ![2048, 6944]⟩
abbrev S2048x512 : Shape := ⟨2, ![2048, 512]⟩
abbrev S_ : Shape := ⟨0, ![]⟩
abbrev S2048x768 : Shape := ⟨2, ![2048, 768]⟩
abbrev S2048x1024 : Shape := ⟨2, ![2048, 1024]⟩
abbrev S2048x2816 : Shape := ⟨2, ![2048, 2816]⟩
abbrev S16384x2816 : Shape := ⟨2, ![16384, 2816]⟩
abbrev S512x2048 : Shape := ⟨2, ![512, 2048]⟩
abbrev S2048x1408 : Shape := ⟨2, ![2048, 1408]⟩
abbrev S512x1408 : Shape := ⟨2, ![512, 1408]⟩

abbrev nBuf : Space → Nat
  | .hbm => 15
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x6944, .f32⟩
  | .hbm, ⟨2, _⟩ => ⟨S2048x512, .f32⟩
  | .hbm, ⟨3, _⟩ => ⟨S_, .f32⟩
  | .hbm, ⟨4, _⟩ => ⟨S2048x512, .f32⟩
  | .hbm, ⟨5, _⟩ => ⟨S2048x512, .f32⟩
  | .hbm, ⟨6, _⟩ => ⟨S2048x768, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S2048x1024, .f32⟩
  | .hbm, ⟨12, _⟩ => ⟨S2048x2816, .f32⟩
  | .hbm, ⟨13, _⟩ => ⟨S2048x2816, .bf16⟩
  | .hbm, ⟨14, _⟩ => ⟨S16384x2816, .bf16⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2048x6944 : Shape := ⟨2, ![2048, 6944]⟩
abbrev S16384x6944 : Shape := ⟨2, ![16384, 6944]⟩
abbrev S16384x512 : Shape := ⟨2, ![16384, 512]⟩
abbrev S16384x768 : Shape := ⟨2, ![16384, 768]⟩
abbrev S16384x24 : Shape := ⟨2, ![16384, 24]⟩
abbrev S16384x1536 : Shape := ⟨2, ![16384, 1536]⟩
abbrev S16384x8 : Shape := ⟨2, ![16384, 8]⟩
abbrev S16384x4096 : Shape := ⟨2, ![16384, 4096]⟩
abbrev S_ : Shape := ⟨0, ![]⟩
abbrev S16384x2816 : Shape := ⟨2, ![16384, 2816]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6944, .f32⟩
  | .hbm, ⟨2, _⟩ => ⟨S16384x2048, .f32⟩
  | .hbm, ⟨3, _⟩ => ⟨S16384x6944, .f32⟩
  | .hbm, ⟨4, _⟩ => ⟨S16384x512, .f32⟩
  | .hbm, ⟨5, _⟩ => ⟨S16384x768, .f32⟩
  | .hbm, ⟨6, _⟩ => ⟨S16384x24, .f32⟩
  | .hbm, ⟨7, _⟩ => ⟨S16384x1536, .f32⟩
  | .hbm, ⟨8, _⟩ => ⟨S16384x8, .f32⟩
  | .hbm, ⟨9, _⟩ => ⟨S16384x4096, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x2816, .f32⟩
  | .hbm, ⟨20, _⟩ => ⟨S16384x2816, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel3.lean ====
abbrev S16384x2048 : Shape := ⟨2, ![16384, 2048]⟩
abbrev S2048x6944 : Shape := ⟨2, ![2048, 6944]⟩
abbrev S2048x24 : Shape := ⟨2, ![2048, 24]⟩
abbrev S2048x8 : Shape := ⟨2, ![2048, 8]⟩
abbrev S_ : Shape := ⟨0, ![]⟩
abbrev S2048x96 : Shape := ⟨2, ![2048, 96]⟩
abbrev S2048x128 : Shape := ⟨2, ![2048, 128]⟩
abbrev S16384x128 : Shape := ⟨2, ![16384, 128]⟩
abbrev S512x2048 : Shape := ⟨2, ![512, 2048]⟩
abbrev S512x128 : Shape := ⟨2, ![512, 128]⟩

abbrev nBuf : Space → Nat
  | .hbm => 9
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x6944, .f32⟩
  | .hbm, ⟨2, _⟩ => ⟨S2048x24, .f32⟩
  | .hbm, ⟨3, _⟩ => ⟨S2048x8, .f32⟩
  | .hbm, ⟨4, _⟩ => ⟨S_, .f32⟩
  | .hbm, ⟨5, _⟩ => ⟨S2048x96, .f32⟩
  | .hbm, ⟨6, _⟩ => ⟨S2048x128, .f32⟩
  | .hbm, ⟨7, _⟩ => ⟨S2048x128, .bf16⟩
  | .hbm, ⟨8, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x6944 : Shape := ⟨2, ![2048, 6944]⟩
abbrev S16384x6944 : Shape := ⟨2, ![16384, 6944]⟩
abbrev S16384x512 : Shape := ⟨2, ![16384, 512]⟩
abbrev S16384x768 : Shape := ⟨2, ![16384, 768]⟩
abbrev S16384x24 : Shape := ⟨2, ![16384, 24]⟩
abbrev S16384x1536 : Shape := ⟨2, ![16384, 1536]⟩
abbrev S16384x8 : Shape := ⟨2, ![16384, 8]⟩
abbrev S16384x4096 : Shape := ⟨2, ![16384, 4096]⟩
abbrev S16384x32 : Shape := ⟨2, ![16384, 32]⟩
abbrev S_ : Shape := ⟨0, ![]⟩
abbrev S16384x128 : Shape := ⟨2, ![16384, 128]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6944, .f32⟩
  | .hbm, ⟨2, _⟩ => ⟨S16384x2048, .f32⟩
  | .hbm, ⟨3, _⟩ => ⟨S16384x6944, .f32⟩
  | .hbm, ⟨4, _⟩ => ⟨S16384x512, .f32⟩
  | .hbm, ⟨5, _⟩ => ⟨S16384x768, .f32⟩
  | .hbm, ⟨6, _⟩ => ⟨S16384x24, .f32⟩
  | .hbm, ⟨7, _⟩ => ⟨S16384x1536, .f32⟩
  | .hbm, ⟨8, _⟩ => ⟨S16384x8, .f32⟩
  | .hbm, ⟨9, _⟩ => ⟨S16384x4096, .f32⟩
  | .hbm, ⟨10, _⟩ => ⟨S16384x32, .f32⟩
  | .hbm, ⟨11, _⟩ => ⟨S_, .i32⟩
  | .hbm, ⟨12, _⟩ => ⟨S_, .f32⟩
  | .hbm, ⟨13, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S16384x2048 : Shape := ⟨2, ![16384, 2048]⟩
abbrev S2048x6944 : Shape := ⟨2, ![2048, 6944]⟩
abbrev S2048x4096 : Shape := ⟨2, ![2048, 4096]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x6944, .f32⟩
  | .hbm, ⟨2, _⟩ => ⟨S2048x4096, .f32⟩
  | .hbm, ⟨3, _⟩ => ⟨S2048x4096, .bf16⟩
  | .hbm, ⟨4, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x6944 : Shape := ⟨2, ![2048, 6944]⟩
abbrev S16384x6944 : Shape := ⟨2, ![16384, 6944]⟩
abbrev S16384x512 : Shape := ⟨2, ![16384, 512]⟩
abbrev S16384x768 : Shape := ⟨2, ![16384, 768]⟩
abbrev S16384x24 : Shape := ⟨2, ![16384, 24]⟩
abbrev S16384x1536 : Shape := ⟨2, ![16384, 1536]⟩
abbrev S16384x8 : Shape := ⟨2, ![16384, 8]⟩
abbrev S16384x4096 : Shape := ⟨2, ![16384, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6944, .f32⟩
  | .hbm, ⟨2, _⟩ => ⟨S16384x2048, .f32⟩
  | .hbm, ⟨3, _⟩ => ⟨S16384x6944, .f32⟩
  | .hbm, ⟨4, _⟩ => ⟨S16384x512, .f32⟩
  | .hbm, ⟨5, _⟩ => ⟨S16384x768, .f32⟩
  | .hbm, ⟨6, _⟩ => ⟨S16384x24, .f32⟩
  | .hbm, ⟨7, _⟩ => ⟨S16384x1536, .f32⟩
  | .hbm, ⟨8, _⟩ => ⟨S16384x8, .f32⟩
  | .hbm, ⟨9, _⟩ => ⟨S16384x4096, .f32⟩
  | .hbm, ⟨10, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel5.lean ====
abbrev S16384x512 : Shape := ⟨2, ![16384, 512]⟩
abbrev S16384x4096 : Shape := ⟨2, ![16384, 4096]⟩
abbrev S16384x2048 : Shape := ⟨2, ![16384, 2048]⟩
abbrev S512x2048 : Shape := ⟨2, ![512, 2048]⟩
abbrev S2048x2048 : Shape := ⟨2, ![2048, 2048]⟩
abbrev S1x2048 : Shape := ⟨2, ![1, 2048]⟩
abbrev S2048 : Shape := ⟨1, ![2048]⟩
abbrev S256x512 : Shape := ⟨2, ![256, 512]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x4096, .bf16⟩
  | .hbm, ⟨3, _⟩ => ⟨S16384x2048, .f32⟩
  | .hbm, ⟨4, _⟩ => ⟨S512x2048, .f32⟩
  | .hbm, ⟨5, _⟩ => ⟨S512x2048, .f32⟩
  | .hbm, ⟨6, _⟩ => ⟨S2048x2048, .f32⟩
  | .hbm, ⟨7, _⟩ => ⟨S1x2048, .f32⟩
  | .hbm, ⟨8, _⟩ => ⟨S2048, .f32⟩
  | .hbm, ⟨9, _⟩ => ⟨S2048, .f32⟩
  | .hbm, ⟨10, _⟩ => ⟨S512x2048, .bf16⟩
  | .hbm, ⟨11, _⟩ => ⟨S512x2048, .bf16⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S16384x2048, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x512 : Shape := ⟨2, ![16384, 512]⟩
abbrev S16384x4096 : Shape := ⟨2, ![16384, 4096]⟩
abbrev S16384x2048 : Shape := ⟨2, ![16384, 2048]⟩
abbrev S512x2048 : Shape := ⟨2, ![512, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 67
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x4096, .bf16⟩
  | .hbm, ⟨3, _⟩ => ⟨S16384x2048, .f32⟩
  | .hbm, ⟨4, _⟩ => ⟨S512x2048, .f32⟩
  | .hbm, ⟨5, _⟩ => ⟨S512x2048, .f32⟩
  | .hbm, ⟨6, _⟩ => ⟨S2048x2048, .f32⟩
  | .hbm, ⟨7, _⟩ => ⟨S1x2048, .f32⟩
  | .hbm, ⟨8, _⟩ => ⟨S2048, .f32⟩
  | .hbm, ⟨9, _⟩ => ⟨S2048, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x2048, .f32⟩
  | .hbm, ⟨20, _⟩ => ⟨S16384x2048, .f32⟩
  | .hbm, ⟨21, _⟩ => ⟨S16384x512, .f32⟩
  | .hbm, ⟨22, _⟩ => ⟨S16384x2048, .f32⟩
  | .hbm, ⟨23, _⟩ => ⟨S16384x2048, .f32⟩
  | .hbm, ⟨24, _⟩ => ⟨S16384x512, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x2048, .f32⟩
  | .hbm, ⟨60, _⟩ => ⟨S16384x2048, .f32⟩
  | .hbm, ⟨61, _⟩ => ⟨S1x2048, .f32⟩
  | .hbm, ⟨62, _⟩ => ⟨S16384x2048, .f32⟩
  | .hbm, ⟨63, _⟩ => ⟨S16384x2048, .f32⟩
  | .hbm, ⟨64, _⟩ => ⟨S1x2048, .f32⟩
  | .hbm, ⟨65, _⟩ => ⟨S16384x2048, .f32⟩
  | .hbm, ⟨66, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel6.lean ====
abbrev S16384x2048 : Shape := ⟨2, ![16384, 2048]⟩
abbrev S32768x2048 : Shape := ⟨2, ![32768, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S32768x2048, .f32⟩
  | .hbm, ⟨2, _⟩ => ⟨S1x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x2048 : Shape := ⟨2, ![16384, 2048]⟩
abbrev S32768x2048 : Shape := ⟨2, ![32768, 2048]⟩
abbrev S1x2048 : Shape := ⟨2, ![1, 2048]⟩
abbrev S2048 : Shape := ⟨1, ![2048]⟩
abbrev S2x16384x2048 : Shape := ⟨3, ![2, 16384, 2048]⟩
abbrev S_ : Shape := ⟨0, ![]⟩
abbrev S16384 : Shape := ⟨1, ![16384]⟩
abbrev S16384x1 : Shape := ⟨2, ![16384, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S32768x2048, .f32⟩
  | .hbm, ⟨2, _⟩ => ⟨S1x2048, .f32⟩
  | .hbm, ⟨3, _⟩ => ⟨S2048, .f32⟩
  | .hbm, ⟨4, _⟩ => ⟨S2048, .f32⟩
  | .hbm, ⟨5, _⟩ => ⟨S2x16384x2048, .f32⟩
  | .hbm, ⟨6, _⟩ => ⟨S_, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel7.lean ====
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel8.lean ====
abbrev S1x2048 : Shape := ⟨2, ![1, 2048]⟩
abbrev S2048x12288 : Shape := ⟨2, ![2048, 12288]⟩
abbrev S12288 : Shape := ⟨1, ![12288]⟩
abbrev S8x2048 : Shape := ⟨2, ![8, 2048]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S1x12288, .f32⟩
  | .hbm, ⟨5, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S1x2048 : Shape := ⟨2, ![1, 2048]⟩
abbrev S2048x12288 : Shape := ⟨2, ![2048, 12288]⟩
abbrev S12288 : Shape := ⟨1, ![12288]⟩
abbrev S_ : Shape := ⟨0, ![]⟩
abbrev S1x12288 : Shape := ⟨2, ![1, 12288]⟩
abbrev S8x12288 : Shape := ⟨2, ![8, 12288]⟩

abbrev nBuf : Space → Nat
  | .hbm => 16
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2048x12288, .f32⟩
  | .hbm, ⟨2, _⟩ => ⟨S12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x12288, .f32⟩
  | .hbm, ⟨13, _⟩ => ⟨S1x12288, .f32⟩
  | .hbm, ⟨14, _⟩ => ⟨S1x12288, .f32⟩
  | .hbm, ⟨15, _⟩ => ⟨S8x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S16384x128 : Shape := ⟨2, ![16384, 128]⟩
abbrev S8 : Shape := ⟨1, ![8]⟩
abbrev S_ : Shape := ⟨0, ![]⟩
abbrev S24 : Shape := ⟨1, ![24]⟩
abbrev S96 : Shape := ⟨1, ![96]⟩
abbrev S128 : Shape := ⟨1, ![128]⟩
abbrev S1x128 : Shape := ⟨2, ![1, 128]⟩
abbrev S512x128 : Shape := ⟨2, ![512, 128]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S8, .f32⟩
  | .hbm, ⟨2, _⟩ => ⟨S_, .f32⟩
  | .hbm, ⟨3, _⟩ => ⟨S24, .f32⟩
  | .hbm, ⟨4, _⟩ => ⟨S_, .f32⟩
  | .hbm, ⟨5, _⟩ => ⟨S96, .f32⟩
  | .hbm, ⟨6, _⟩ => ⟨S128, .f32⟩
  | .hbm, ⟨7, _⟩ => ⟨S1x128, .f32⟩
  | .hbm, ⟨8, _⟩ => ⟨S16384x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S16384x128 : Shape := ⟨2, ![16384, 128]⟩
abbrev S8 : Shape := ⟨1, ![8]⟩
abbrev S_ : Shape := ⟨0, ![]⟩
abbrev S128 : Shape := ⟨1, ![128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S_, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .i1⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S_, .f32⟩
  | .hbm, ⟨25, _⟩ => ⟨S_, .f32⟩
  | .hbm, ⟨26, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_v0 : Ref sig .tc := ⟨.hbm, 8, rfl⟩
abbrev main_call1_call0_cst : Ref sig .tc := ⟨.hbm, 9, rfl⟩
abbrev main_call1_call0_v0 : Ref sig .tc := ⟨.hbm, 10, rfl⟩
abbrev main_call1_call0_v1 : Ref sig .tc := ⟨.hbm, 11, rfl⟩
abbrev main_call1_call0_v2 : Ref sig .tc := ⟨.hbm, 12, rfl⟩
abbrev main_call1_call0_v3 : Ref sig .tc := ⟨.hbm, 13, rfl⟩
abbrev main_call1_call0_v4 : Ref sig .tc := ⟨.hbm, 14, rfl⟩
abbrev main_call1_call0_v5 : Ref sig .tc := ⟨.hbm, 15, rfl⟩
abbrev main_call1_call0_v6 : Ref sig .tc := ⟨.hbm, 16, rfl⟩
abbrev main_call1_call0_v7 : Ref sig .tc := ⟨.hbm, 17, rfl⟩
abbrev main_call1_call0_v8 : Ref sig .tc := ⟨.hbm, 18, rfl⟩
abbrev main_call1_call0_v9 : Ref sig .tc := ⟨.hbm, 19, rfl⟩
abbrev main_call1_call0_v10 : Ref sig .tc := ⟨.hbm, 20, rfl⟩
abbrev main_call1_call0_v11 : Ref sig .tc := ⟨.hbm, 21, rfl⟩
abbrev main_call1_v1 : Ref sig .tc := ⟨.hbm, 22, rfl⟩
abbrev main_v4 : Ref sig .tc := ⟨.hbm, 23, rfl⟩
abbrev main_call2_cst : Ref sig .tc := ⟨.hbm, 24, rfl⟩
abbrev main_call2_v0 : Ref sig .tc := ⟨.hbm, 25, rfl⟩
abbrev main_v5 : Ref sig .tc := ⟨.hbm, 26, rfl⟩

abbrev nD : Nat := 1
abbrev τ : Topo := Topo.v7x

variable {F : FTy → Type} [FloatOps F]
-- ==== Kernel10.lean ====
abbrev S2x2x16384x64 : Shape := ⟨4, ![2, 2, 16384, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x2x1024x1024 : Shape := ⟨4, ![2, 2, 1024, 1024]⟩
abbrev S2x1x2048 : Shape := ⟨3, ![2, 1, 2048]⟩
abbrev S2x8x2048 : Shape := ⟨3, ![2, 8, 2048]⟩
abbrev S2x1x256 : Shape := ⟨3, ![2, 1, 256]⟩
abbrev S2x2x1024x64 : Shape := ⟨4, ![2, 2, 1024, 64]⟩
abbrev S1x1x1024x1024 : Shape := ⟨4, ![1, 1, 1024, 1024]⟩
abbrev S1x8x2048 : Shape := ⟨3, ![1, 8, 2048]⟩
abbrev S1x1024x256 : Shape := ⟨3, ![1, 1024, 256]⟩
abbrev S1x1x256 : Shape := ⟨3, ![1, 1, 256]⟩
abbrev S1x256x64 : Shape := ⟨3, ![1, 256, 64]⟩
abbrev S1x1x1024x64 : Shape := ⟨4, ![1, 1, 1024, 64]⟩
abbrev S1024x1024 : Shape := ⟨2, ![1024, 1024]⟩
abbrev S1024x256 : Shape := ⟨2, ![1024, 256]⟩
abbrev S8x2048 : Shape := ⟨2, ![8, 2048]⟩
abbrev S8x1024 : Shape := ⟨2, ![8, 1024]⟩
abbrev S8x256 : Shape := ⟨2, ![8, 256]⟩
abbrev S1x256 : Shape := ⟨2, ![1, 256]⟩
abbrev S256x64 : Shape := ⟨2, ![256, 64]⟩
abbrev S1024x64 : Shape := ⟨2, ![1024, 64]⟩

abbrev nBuf : Space → Nat
  | .hbm => 13
  | .vmem => 14
  | .smem => 0
  | _ => 0

abbrev bufTy : (tb : Table) → Fin (tcTables nBuf tb) → BufTy
  | .hbm, ⟨0, _⟩ => ⟨S2x2x16384x64, .bf16⟩
  | .hbm, ⟨1, _⟩ => ⟨S2x32x64, .f32⟩
  | .hbm, ⟨2, _⟩ => ⟨S2x2048x256, .f32⟩
  | .hbm, ⟨3, _⟩ => ⟨S2x256, .f32⟩
  | .hbm, ⟨4, _⟩ => ⟨S2x256x64, .f32⟩
  | .hbm, ⟨5, _⟩ => ⟨S2x2x1024x1024, .bf16⟩
  | .hbm, ⟨6, _⟩ => ⟨S2x1x2048, .f32⟩
  | .hbm, ⟨7, _⟩ => ⟨S2x8x2048, .f32⟩
  | .hbm, ⟨8, _⟩ => ⟨S2x8x2048, .bf16⟩
  | .hbm, ⟨9, _⟩ => ⟨S2x2048x256, .bf16⟩
  | .hbm, ⟨10, _⟩ => ⟨S2x1x256, .f32⟩
  | .hbm, ⟨11, _⟩ => ⟨S2x256x64, .bf16⟩
  | .hbm, ⟨12, _⟩ => ⟨S2x2x1024x64, .f32⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x8x2048, .bf16⟩
  | .local _ .vmem, ⟨3, _⟩ => ⟨S1x8x2048, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1x256, .f32⟩
  | .local _ .vmem, ⟨9, _⟩ => ⟨S1x1x256, .f32⟩
  | .local _ .vmem, ⟨10, _⟩ => ⟨S1x256x64, .bf16⟩
  | .local _ .vmem, ⟨11, _⟩ => ⟨S1x256x64, .bf16⟩
  | .local _ .vmem, ⟨12, _⟩ => ⟨S1x1x1024x64, .f32⟩
  | .local _ .vmem, ⟨13, _⟩ => ⟨S1x1x1024x64, .f32⟩
  | _, _ => ⟨S2x2x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S2x2x16384x64 : Shape := ⟨4, ![2, 2, 16384, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x2x1024x1024 : Shape := ⟨4, ![2, 2, 1024, 1024]⟩
abbrev S2x2x1023x1024 : Shape := ⟨4, ![2, 2, 1023, 1024]⟩
abbrev S2x2x1x1024 : Shape := ⟨4, ![2, 2, 1, 1024]⟩
abbrev S2x2x1024x2048 : Shape := ⟨4, ![2, 2, 1024, 2048]⟩
abbrev S2x1x1x2048 : Shape := ⟨4, ![2, 1, 1, 2048]⟩
abbrev S2x2x1024x256 : Shape := ⟨4, ![2, 2, 1024, 256]⟩
abbrev S2x1x1x256 : Shape := ⟨4, ![2, 1, 1, 256]⟩
abbrev S_ : Shape := ⟨0, ![]⟩
abbrev S2x2x1024x64 : Shape := ⟨4, ![2, 2, 1024, 64]⟩

abbrev nBuf : Space → Nat
  | .hbm => 36
  | .vmem => 0
  | .smem => 0
  | _ => 0

abbrev bufTy : (tb : Table) → Fin (tcTables nBuf tb) → BufTy
  | .hbm, ⟨0, _⟩ => ⟨S2x2x16384x64, .bf16⟩
  | .hbm, ⟨1, _⟩ => ⟨S2x32x64, .f32⟩
  | .hbm, ⟨2, _⟩ => ⟨S2x2048x256, .f32⟩
  | .hbm, ⟨3, _⟩ => ⟨S2x256, .f32⟩
  | .hbm, ⟨4, _⟩ => ⟨S2x256x64, .f32⟩
  | .hbm, ⟨5, _⟩ => ⟨S2x2x16384x64, .f32⟩
  | .hbm, ⟨6, _⟩ => ⟨S2x2x1024x1024, .f32⟩
  | .hbm, ⟨7, _⟩ => ⟨S2x2x1023x1024, .f32⟩
  | .hbm, ⟨8, _⟩ => ⟨S2x2x1x1024, .f32⟩
  | .hbm, ⟨9, _⟩ => ⟨S2x2x1024x1024, .f32⟩
  | .hbm, ⟨10, _⟩ => ⟨S2x2x1024x2048, .f32⟩
  | .hbm, ⟨11, _⟩ => ⟨S2x1x1x2048, .f32⟩
  | .hbm, ⟨12, _⟩ => ⟨S2x2x1024x2048, .f32⟩
  | .hbm, ⟨13, _⟩ => ⟨S2x2x1024x2048, .f32⟩
  | .hbm, ⟨14, _⟩ => ⟨S2x2x1024x256, .f32⟩
  | .hbm, ⟨15, _⟩ => ⟨S2x1x1x256, .f32⟩
  | .hbm, ⟨16, _⟩ => ⟨S2x2x1024x256, .f32⟩
  | .hbm, ⟨17, _⟩ => ⟨S2x2x1024x256, .f32⟩
  | .hbm, ⟨18, _⟩ => ⟨S2x2x1024x256, .f32⟩
  | .hbm, ⟨19, _⟩ => ⟨S2x2x1024x256, .f32⟩
  | .hbm, ⟨20, _⟩ => ⟨S_, .f32⟩
  | .hbm, ⟨21, _⟩ => ⟨S2x2x1024x256, .f32⟩
  | .hbm, ⟨22, _⟩ => ⟨S2x2x1024x256, .f32⟩
  | .hbm, ⟨23, _⟩ => ⟨S2x2x1024x256, .f32⟩
  | .hbm, ⟨24, _⟩ => ⟨S_, .f32⟩
  | .hbm, ⟨25, _⟩ => ⟨S2x2x1024x256, .f32⟩
  | .hbm, ⟨26, _⟩ => ⟨S2x2x1024x256, .f32⟩
  | .hbm, ⟨27, _⟩ => ⟨S2x2x1024x256, .f32⟩
  | .hbm, ⟨28, _⟩ => ⟨S_, .f32⟩
  | .hbm, ⟨29, _⟩ => ⟨S2x2x1024x256, .f32⟩
  | .hbm, ⟨30, _⟩ => ⟨S2x2x1024x256, .f32⟩
  | .hbm, ⟨31, _⟩ => ⟨S_, .f32⟩
  | .hbm, ⟨32, _⟩ => ⟨S2x2x1024x256, .f32⟩
  | .hbm, ⟨33, _⟩ => ⟨S2x2x1024x256, .f32⟩
  | .hbm, ⟨34, _⟩ => ⟨S2x2x1024x256, .f32⟩
  | .hbm, ⟨35, _⟩ => ⟨S2x2x1024x64, .f32⟩
  | _, _ => ⟨S2x2x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Body.lean ====
/-
  What one grid point of the forgetting-attention kernel computes, read off its run: the running maximum, the running
  sum and the running weighted values go through one step per visited key tile, then through the diagonal tile's step,
  and the stored block is the quotient of the chosen half of the weighted values by the sum.
-/
module

public import proofs.«01_k».proof.Proof.Gen.KernelIdeal.Frame
public import Idealize.ShloMosaic.Lib.Pipeline.Value
public import Idealize.ShloMosaic.Lib.VecWindow
public import Idealize.ShloMosaic.Lib.Tactic

@[expose] public section

set_option maxRecDepth 16384

noncomputable section

open Idealize.ShloMosaic Idealize.ShloMosaic.TcCoe Idealize.SL.Sem

namespace Cert.KernelIdeal.Fox

open Cert.KernelIdeal Cert.KernelIdeal.Gen

variable {F : FTy → Type} [FloatOps F] [Named F]

/-- The three running quantities of a block of 512 query rows: maximum, sum, weighted values (two heads wide). -/
abbrev St (F : FTy → Type) : Type := FVec F S512x1 .f32 × FVec F S512x1 .f32 × FVec F S512x128 .f32

/-- One step over a key tile all of whose positions are visible: keys `kt`, key decays `fk`, values `vt`. -/
def stepFull (q : Vec F S1x512x64 .bf16) (fq : Vec F S1x512x1 .f32) (kt : Vec F S1x64x512 .bf16) (fk : Vec F S1x1x512 .f32)
    (vt : Vec F S1x512x128 .bf16) (s : St F) : St F :=
  (k0_pay4 (k0_pay15 q) (k0_pay16 fq) kt fk s.1, k0_pay7 (k0_pay15 q) (k0_pay16 fq) kt fk s.1 s.2.1,
    k0_pay8 (k0_pay15 q) (k0_pay16 fq) kt fk vt s.1 s.2.2)

/-- The step over the diagonal tile, whose positions past the query's own are masked. -/
def stepDiag (q : Vec F S1x512x64 .bf16) (fq : Vec F S1x512x1 .f32) (kt : Vec F S1x64x512 .bf16) (fk : Vec F S1x1x512 .f32)
    (vt : Vec F S1x512x128 .bf16) (s : St F) : St F :=
  (k0_pay26 (k0_pay24 q fq kt) fk s.1, k0_pay29 (k0_pay24 q fq kt) fk s.1 s.2.1, k0_pay30 (k0_pay24 q fq kt) fk vt s.1 s.2.2)

/-- The running quantities after `n` trips of the loop over the key tiles before the diagonal. -/
def st (i : grid0.Coords) (x0 : Vec F S1x512x64 .bf16) (x1 : Vec F S1x64x16384 .bf16) (x2 : Vec F S1x16384x128 .bf16) (x3 : Vec F S1x512x1 .f32) (x4 : Vec F S1x1x16384 .f32) :
    ℕ → St F
  | 0 => (k0_pay17, k0_pay18, k0_pay19)
  | n + 1 => if h : n < (k0_t1_loop i).trips then
      stepFull x0 x3 (View.ld x1 (Rect.unit (s := S1x64x16384) (k0_off1 i ⟨n, h⟩) S1x64x512.size (k0_off1_inb i ⟨n, h⟩)))
        (View.ld x4 (Rect.unit (s := S1x1x16384) (k0_off2 i ⟨n, h⟩) S1x1x512.size (k0_off2_inb i ⟨n, h⟩)))
        (View.ld x2 (Rect.unit (s := S1x16384x128) (k0_off3 i ⟨n, h⟩) S1x512x128.size (k0_off3_inb i ⟨n, h⟩))) (st i x0 x1 x2 x3 x4 n)
      else st i x0 x1 x2 x3 x4 n

/-- The running quantities after the diagonal tile. -/
def stEnd (i : grid0.Coords) (x0 : Vec F S1x512x64 .bf16) (x1 : Vec F S1x64x16384 .bf16) (x2 : Vec F S1x16384x128 .bf16) (x3 : Vec F S1x512x1 .f32) (x4 : Vec F S1x1x16384 .f32) : St F :=
  stepDiag x0 x3 (View.ld x1 (Rect.unit (s := S1x64x16384) (k0_off7 i) S1x64x512.size (k0_off7_inb i)))
    (View.ld x4 (Rect.unit (s := S1x1x16384) (k0_off8 i) S1x1x512.size (k0_off8_inb i)))
    (View.ld x2 (Rect.unit (s := S1x16384x128) (k0_off9 i) S1x512x128.size (k0_off9_inb i)))
    (st i x0 x1 x2 x3 x4 (k0_t1_loop i).trips)

section run

variable (arg2 : Memref sig .tc .vmem S1x512x64 .bf16) (harg2 : arg2.IsWhole) (arg3 : Memref sig .tc .vmem S1x64x16384 .bf16) (harg3 : arg3.IsWhole) (arg4 : Memref sig .tc .vmem S1x16384x128 .bf16) (harg4 : arg4.IsWhole) (arg5 : Memref sig .tc .vmem S1x512x1 .f32) (harg5 : arg5.IsWhole) (arg6 : Memref sig .tc .vmem S1x1x16384 .f32) (harg6 : arg6.IsWhole) (arg7 : Memref sig .tc .vmem S1x512x64 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)

/-- One trip's stores: each scratch array is overwritten whole with the step's quantity. -/
theorem trip1 (𝒱 : Variants) (c : Dev nD) (bd : Option 𝒱.V) (i : grid0.Coords) (v0 : Vec F S1x512x64 .bf16) (v2 : Vec F S1x512x1 .f32)
    (x1 : Vec F S1x64x16384 .bf16) (x2 : Vec F S1x16384x128 .bf16) (x4 : Vec F S1x1x16384 .f32) (k : Fin (k0_t1_loop i).trips) (f8 f9 f10) :
    tripL_k0_t1 (F := F) 𝒱 c bd i arg2 harg2 arg3 harg3 arg4 harg4 arg5 harg5 arg6 harg6 arg7 harg7 arg8 harg8 arg9 harg9 arg10 harg10 v0 v2 (harg3.unread x1) (harg4.unread x2) (harg6.unread x4) k f8 f9 f10
      = let s := stepFull v0 v2 (View.ld x1 (Rect.unit (s := S1x64x16384) (k0_off1 i k) S1x64x512.size (k0_off1_inb i k)))
            (View.ld x4 (Rect.unit (s := S1x1x16384) (k0_off2 i k) S1x1x512.size (k0_off2_inb i k)))
            (View.ld x2 (Rect.unit (s := S1x16384x128) (k0_off3 i k) S1x512x128.size (k0_off3_inb i k)))
            (arg8.view.read (Elt F) f8, arg9.view.read (Elt F) f9, arg10.view.read (Elt F) f10)
        ([⟨Rect.unit ![0, 0] S512x1.size inb_S512x1_S512x1_0_0, s.1⟩], [⟨Rect.unit ![0, 0] S512x1.size inb_S512x1_S512x1_0_0, s.2.1⟩],
          [⟨Rect.unit ![0, 0] S512x128.size inb_S512x128_S512x128_0_0, s.2.2⟩]) := by
  have e1 : View.readAt (Elt F) arg3.view (Rect.unit (s := S1x64x16384) (k0_off1 i k) S1x64x512.size (k0_off1_inb i k)).toLoadRect (harg3.unread x1)
      = View.ld x1 (Rect.unit (s := S1x64x16384) (k0_off1 i k) S1x64x512.size (k0_off1_inb i k)) := by
    rw [View.readAt_eq_ld, harg3.read_unread]
  have e2 : View.readAt (Elt F) arg6.view (Rect.unit (s := S1x1x16384) (k0_off2 i k) S1x1x512.size (k0_off2_inb i k)).toLoadRect (harg6.unread x4)
      = View.ld x4 (Rect.unit (s := S1x1x16384) (k0_off2 i k) S1x1x512.size (k0_off2_inb i k)) := by
    rw [View.readAt_eq_ld, harg6.read_unread]
  have e3 : View.readAt (Elt F) arg4.view (Rect.unit (s := S1x16384x128) (k0_off3 i k) S1x512x128.size (k0_off3_inb i k)).toLoadRect (harg4.unread x2)
      = View.ld x2 (Rect.unit (s := S1x16384x128) (k0_off3 i k) S1x512x128.size (k0_off3_inb i k)) := by
    rw [View.readAt_eq_ld, harg4.read_unread]
  rw [← e1, ← e2, ← e3, ← View.readAt_full arg8.view f8 inb_S512x1_S512x1_0_0, ← View.readAt_full arg9.view f9 inb_S512x1_S512x1_0_0,
    ← View.readAt_full arg10.view f10 inb_S512x128_S512x128_0_0]
  unfold tripL_k0_t1 trip_k0_t1 stepFull
  dsimp only
  have h1 : ∀ v : FVec F S512x1 .f32, k0_pay21 v = v := fun v => by unfold k0_pay21; exact shapeCast_self ..
  have h2 : ∀ v : FVec F S512x128 .f32, k0_pay20 v = v := fun v => by unfold k0_pay20; exact shapeCast_self ..
  simp only [h1, h2]
  rfl

/-- After `n` trips, whatever the scratch held before as long as it read as the initial quantities, the scratch reads as `st n`. -/
theorem loop1 (𝒱 : Variants) (c : Dev nD) (bd : Option 𝒱.V) (i : grid0.Coords) (v0 : Vec F S1x512x64 .bf16) (v2 : Vec F S1x512x1 .f32)
    (x1 : Vec F S1x64x16384 .bf16) (x2 : Vec F S1x16384x128 .bf16) (x4 : Vec F S1x1x16384 .f32) (G8 G9 G10)
    (h8 : arg8.view.read (Elt F) G8 = k0_pay17) (h9 : arg9.view.read (Elt F) G9 = k0_pay18) (h10 : arg10.view.read (Elt F) G10 = k0_pay19) (n : ℕ) (hn : n ≤ (k0_t1_loop i).trips) :
    arg8.view.read (Elt F) (arg8.view.writes (Elt F) G8 (pb_k0_t1 (F := F) 𝒱 c bd i arg2 harg2 arg3 harg3 arg4 harg4 arg5 harg5 arg6 harg6 arg7 harg7 arg8 harg8 arg9 harg9 arg10 harg10 v0 v2 (harg3.unread x1) (harg4.unread x2) (harg6.unread x4) G8 G9 G10 n).1) = (st i v0 x1 x2 v2 x4 n).1
    ∧ arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 v0 v2 (harg3.unread x1) (harg4.unread x2) (harg6.unread x4) G8 G9 G10 n).2.1) = (st i v0 x1 x2 v2 x4 n).2.1
    ∧ arg10.view.read (Elt F) (arg10.view.writes (Elt F) G10 (pb_k0_t1 (F := F) 𝒱 c bd i arg2 harg2 arg3 harg3 arg4 harg4 arg5 harg5 arg6 harg6 arg7 harg7 arg8 harg8 arg9 harg9 arg10 harg10 v0 v2 (harg3.unread x1) (harg4.unread x2) (harg6.unread x4) G8 G9 G10 n).2.2) = (st i v0 x1 x2 v2 x4 n).2.2 := by
  induction n with
  | zero => exact ⟨h8, h9, h10⟩
  | succ n ih =>
    obtain ⟨i1, i2, i3⟩ := ih (by omega)
    have e := pb_k0_t1_succ (F := F) 𝒱 c bd i arg2 harg2 arg3 harg3 arg4 harg4 arg5 harg5 arg6 harg6 arg7 harg7 arg8 harg8 arg9 harg9 arg10 harg10 v0 v2 (harg3.unread x1) (harg4.unread x2) (harg6.unread x4) G8 G9 G10 ⟨n, hn⟩
    rw [trip1] at e
    dsimp only at e
    rw [i1, i2, i3] at e
    rw [e]
    rw [st, dif_pos (show n < (k0_t1_loop i).trips from hn)]
    refine ⟨?_, ?_, ?_⟩
    · exact View.read_writes_full ..
    · exact View.read_writes_full ..
    · exact View.read_writes_full ..

section out

variable (c : Dev nD) (i : grid0.Coords) (x0 : Vec F S1x512x64 .bf16) (x1 : Vec F S1x64x16384 .bf16) (x2 : Vec F S1x16384x128 .bf16)
  (x3 : Vec F S1x512x1 .f32) (x4 : Vec F S1x1x16384 .f32)

/-- The masked loop past the diagonal tile makes no trip. -/
theorem trips2 : Scf.trips (k0_t2_loop i).lb (k0_t2_loop i).ub (k0_t2_loop i).st = 0 :=
  Nat.le_zero.mp (k0_t2_abs i).2.1

theorem q_load : View.readAt (Elt F) arg2.view (Rect.unit ![0, 0, 0] S1x512x64.size inb_S1x512x64_S1x512x64_0_0_0).toLoadRect (harg2.unread x0) = x0 := by
  rw [View.readAt_full, harg2.read_unread]

theorem fq_load : View.readAt (Elt F) arg5.view (Rect.unit ![0, 0, 0] S1x512x1.size inb_S1x512x1_S1x512x1_0_0_0).toLoadRect (harg5.unread x3) = x3 := by
  rw [View.readAt_full, harg5.read_unread]

/-- What the diagonal step loads: the scratch holds the loop's last quantities. -/
theorem m_load : kernelRun0_A.sl.v42 (F := F) c i arg2 harg2 arg3 harg3 arg4 harg4 arg5 harg5 arg6 harg6 arg7 harg7 arg8 harg8 arg9 harg9 arg10 harg10 x0 x1 x2 x3 x4 = (st i x0 x1 x2 x3 x4 (k0_t1_loop i).trips).1 := by
  unfold kernelRun0_A.sl.v42
  rw [trips2]
  unfold View.readCov
  rw [View.readAt_full, q_load, fq_load]
  rw [View.writes_append]
  show arg8.view.read (Elt F) (arg8.view.writes (Elt F) (arg8.view.writes (Elt F) arg8.view.junk (_ ++ _)) []) = _
  rw [View.writes_nil, View.writes_append]
  exact (loop1 arg2 harg2 arg3 harg3 arg4 harg4 arg5 harg5 arg6 harg6 arg7 harg7 arg8 harg8 arg9 harg9 arg10 harg10 Variants.none c none i x0 x3 x1 x2 x4 _ _ _ (View.read_writes_full ..) (View.read_writes_full ..) (View.read_writes_full ..) _ le_rfl).1

theorem l_load : kernelRun0_A.sl.v51 (F := F) c i arg2 harg2 arg3 harg3 arg4 harg4 arg5 harg5 arg6 harg6 arg7 harg7 arg8 harg8 arg9 harg9 arg10 harg10 x0 x1 x2 x3 x4 = (st i x0 x1 x2 x3 x4 (k0_t1_loop i).trips).2.1 := by
  unfold kernelRun0_A.sl.v51
  rw [trips2]
  unfold View.readCov
  rw [View.readAt_full, q_load, fq_load]
  rw [View.writes_append]
  show arg9.view.read (Elt F) (arg9.view.writes (Elt F) (arg9.view.writes (Elt F) arg9.view.junk (_ ++ _)) []) = _
  rw [View.writes_nil, View.writes_append]
  exact (loop1 arg2 harg2 arg3 harg3 arg4 harg4 arg5 harg5 arg6 harg6 arg7 harg7 arg8 harg8 arg9 harg9 arg10 harg10 Variants.none c none i x0 x3 x1 x2 x4 _ _ _ (View.read_writes_full ..) (View.read_writes_full ..) (View.read_writes_full ..) _ le_rfl).2.1

theorem acc_load : kernelRun0_A.sl.v59 (F := F) c i arg2 harg2 arg3 harg3 arg4 harg4 arg5 harg5 arg6 harg6 arg7 harg7 arg8 harg8 arg9 harg9 arg10 harg10 x0 x1 x2 x3 x4 = (st i x0 x1 x2 x3 x4 (k0_t1_loop i).trips).2.2 := by
  unfold kernelRun0_A.sl.v59
  rw [trips2]
  unfold View.readCov
  rw [View.readAt_full, q_load, fq_load]
  rw [View.writes_append]
  show arg10.view.read (Elt F) (arg10.view.writes (Elt F) (arg10.view.writes (Elt F) arg10.view.junk (_ ++ _)) []) = _
  rw [View.writes_nil, View.writes_append]
  exact (loop1 arg2 harg2 arg3 harg3 arg4 harg4 arg5 harg5 arg6 harg6 arg7 harg7 arg8 harg8 arg9 harg9 arg10 harg10 Variants.none c none i x0 x3 x1 x2 x4 _ _ _ (View.read_writes_full ..) (View.read_writes_full ..) (View.read_writes_full ..) _ le_rfl).2.2

/-- The block one grid point stores: the half of the weighted values that belongs to the point's head, divided by the sum. -/
theorem out_eq : out0_A_5 c i arg2 harg2 arg3 harg3 arg4 harg4 arg5 harg5 arg6 harg6 arg7 harg7 arg8 harg8 arg9 harg9 arg10 harg10 x0 x1 x2 x3 x4
    = k0_pay2 (BitVec.ofNat 32 (i 0).val)
        (View.ld (Val := Elt F) (stEnd i x0 x1 x2 x3 x4).2.2 (Rect.unit (s := S512x128) ![0, 0] ![512, 64] inb_S512x128_S512x64_0_0))
        (View.ld (Val := Elt F) (stEnd i x0 x1 x2 x3 x4).2.2 (Rect.unit (s := S512x128) ![0, 64] ![512, 64] inb_S512x128_S512x64_0_64))
        (stEnd i x0 x1 x2 x3 x4).2.1 := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4)]
  unfold kernelRun0_A
  dsimp only
  rw [View.canon_cons_unit_zero (by funext a; fin_cases a <;> rfl)]
  have hr : kernelRun0_A.sl.r (F := F) c i arg2 harg2 arg3 harg3 arg5 harg5 x0 x1 x3
      = k0_pay24 x0 x3 (View.ld x1 (Rect.unit (s := S1x64x16384) (k0_off7 i) S1x64x512.size (k0_off7_inb i))) := by
    unfold kernelRun0_A.sl.r
    rw [q_load, fq_load, View.readAt_eq_ld, harg3.read_unread]
  have h6 : View.readAt (Elt F) arg6.view (Rect.unit (s := S1x1x16384) (k0_off8 i) S1x1x512.size (k0_off8_inb i)).toLoadRect (harg6.unread x4)
      = View.ld x4 (Rect.unit (s := S1x1x16384) (k0_off8 i) S1x1x512.size (k0_off8_inb i)) := by
    rw [View.readAt_eq_ld, harg6.read_unread]
  have h4 : View.readAt (Elt F) arg4.view (Rect.unit (s := S1x16384x128) (k0_off9 i) S1x512x128.size (k0_off9_inb i)).toLoadRect (harg4.unread x2)
      = View.ld x2 (Rect.unit (s := S1x16384x128) (k0_off9 i) S1x512x128.size (k0_off9_inb i)) := by
    rw [View.readAt_eq_ld, harg4.read_unread]
  have hz : (![0, 0] : Fin 2 → ℕ) = fun _ => 0 := by funext a; fin_cases a <;> rfl
  have e82 : kernelRun0_A.sl.v82 (F := F) c i arg2 harg2 arg3 harg3 arg4 harg4 arg5 harg5 arg6 harg6 arg7 harg7 arg8 harg8 arg9 harg9 arg10 harg10 x0 x1 x2 x3 x4
      = View.ld (Val := Elt F) (stEnd i x0 x1 x2 x3 x4).2.2 (Rect.unit (s := S512x128) ![0, 0] ![512, 64] inb_S512x128_S512x64_0_0) := by
    unfold kernelRun0_A.sl.v82 kernelRun0_A.sl.HS2_1_1
    rw [View.readCov_eq_canon', View.canon_cons_unit_zero hz, hr, h6, h4, m_load, acc_load]
    rfl
  have e83 : kernelRun0_A.sl.v83 (F := F) c i arg2 harg2 arg3 harg3 arg4 harg4 arg5 harg5 arg6 harg6 arg7 harg7 arg8 harg8 arg9 harg9 arg10 harg10 x0 x1 x2 x3 x4
      = View.ld (Val := Elt F) (stEnd i x0 x1 x2 x3 x4).2.2 (Rect.unit (s := S512x128) ![0, 64] ![512, 64] inb_S512x128_S512x64_0_64) := by
    unfold kernelRun0_A.sl.v83 kernelRun0_A.sl.HS2_1_1
    rw [View.readCov_eq_canon', View.canon_cons_unit_zero hz, hr, h6, h4, m_load, acc_load]
    rfl
  have e85 : kernelRun0_A.sl.v85 (F := F) c i arg2 harg2 arg3 harg3 arg4 harg4 arg5 harg5 arg6 harg6 arg7 harg7 arg8 harg8 arg9 harg9 arg10 harg10 x0 x1 x2 x3 x4 = (stEnd i x0 x1 x2 x3 x4).2.1 := by
    unfold kernelRun0_A.sl.v85 kernelRun0_A.sl.HS1_1_1
    rw [View.readCov_eq_canon', View.canon_cons_unit_zero hz, hr, h6, m_load, l_load]
    funext j
    exact congrArg (stEnd i x0 x1 x2 x3 x4).2.1 (Rect.emb_unit_full _ j)
  rw [e82, e83, e85]

end out

end run

end Cert.KernelIdeal.Fox

end
-- ==== Proof.Pay.lean ====
/-
  The kernel's payloads read at one element, over the extended reals.
-/
module

public import proofs.«01_k».proof.Proof.Body
public import Idealize.ShloMosaic.Lib.Pointwise
public import Idealize.ShloMosaic.PureOps.Ideal.Laws
public import Idealize.ShloMosaic.Lib.WordCmp

@[expose] public section

set_option maxRecDepth 16384

noncomputable section

open Idealize.ShloMosaic Idealize.ShloMosaic.TcCoe Idealize.ShloMosaic.Pointwise

namespace Cert.KernelIdeal.Fox

open Cert.KernelIdeal Cert.KernelIdeal.Gen

variable (q : Vec Ideal S1x512x64 .bf16) (fq : Vec Ideal S1x512x1 .f32) (kt : Vec Ideal S1x64x512 .bf16) (fk : Vec Ideal S1x1x512 .f32)
  (vt : Vec Ideal S1x512x128 .bf16) (M L : Vec Ideal S512x1 .f32) (A : Vec Ideal S512x128 .f32)

/-- The bit pattern of minus infinity denotes `⊥`. -/
theorem ofBits_neg_inf : Ideal.ofBits .f32 0xFF800000#32 = ⊥ := by simp [Ideal.ofBits, Ideal.ieee]

/-- The bit pattern the running maximum starts from denotes a real number. -/
theorem ofBits_start : ∃ m : ℝ, Ideal.ofBits .f32 0xEFA18F08#32 = m := by
  simp only [Ideal.ofBits, Ideal.ieee]
  exact ⟨_, rfl⟩

/-- The mask constant is `⊥`. -/
theorem mask_eq : (Named.named κ "mask" 0xF149F2CA#32 : Ideal .f32) = (⊥ : EReal) := rfl

theorem pay17_at (r : Fin 512) : ∃ m : ℝ, (k0_pay17 : FVec Ideal S512x1 .f32) (ix2 r 0) = (m : EReal) := by
  obtain ⟨m, hm⟩ := ofBits_start
  refine ⟨m, ?_⟩
  rw [← hm]
  pointwise [k0_pay17]

theorem pay18_at (r : Fin 512) : (k0_pay18 : FVec Ideal S512x1 .f32) (ix2 r 0) = (0 : EReal) := by
  pointwise [k0_pay18]

theorem pay19_at (r : Fin 512) (e : Fin 128) : (k0_pay19 : FVec Ideal S512x128 .f32) (ix2 r e) = (0 : EReal) := by
  pointwise [k0_pay19]

theorem pay3_at (r l : Fin 512) : k0_pay3 (k0_pay15 q) (k0_pay16 fq) kt fk (ix2 r l)
    = (∑ d : Fin 64, q (ix3 0 r d) * kt (ix3 0 d l)) + fq (ix3 0 r 0) - fk (ix3 0 0 l) := by
  pointwise [k0_pay3, k0_pay15, k0_pay16]

theorem pay4_at (r : Fin 512) : k0_pay4 (k0_pay15 q) (k0_pay16 fq) kt fk M (ix2 r 0)
    = max (M (ix2 r 0)) (Finset.univ.fold max ⊥ fun l : Fin 512 => k0_pay3 (k0_pay15 q) (k0_pay16 fq) kt fk (ix2 r l)) := by
  unfold k0_pay4
  generalize k0_pay3 (k0_pay15 q) (k0_pay16 fq) kt fk = S
  pointwise
  rw [ofBits_neg_inf]

theorem pay5_at (r : Fin 512) : k0_pay5 (k0_pay15 q) (k0_pay16 fq) kt fk M (ix2 r 0)
    = Ideal.exp (M (ix2 r 0) - k0_pay4 (k0_pay15 q) (k0_pay16 fq) kt fk M (ix2 r 0)) := by
  unfold k0_pay5
  generalize k0_pay4 (k0_pay15 q) (k0_pay16 fq) kt fk M = S
  pointwise

theorem pay6_at (r l : Fin 512) : k0_pay6 (k0_pay15 q) (k0_pay16 fq) kt fk M (ix2 r l)
    = Ideal.exp (k0_pay3 (k0_pay15 q) (k0_pay16 fq) kt fk (ix2 r l) - k0_pay4 (k0_pay15 q) (k0_pay16 fq) kt fk M (ix2 r 0)) := by
  unfold k0_pay6
  generalize k0_pay4 (k0_pay15 q) (k0_pay16 fq) kt fk M = S
  generalize k0_pay3 (k0_pay15 q) (k0_pay16 fq) kt fk = T
  pointwise

theorem pay7_at (r : Fin 512) : k0_pay7 (k0_pay15 q) (k0_pay16 fq) kt fk M L (ix2 r 0)
    = k0_pay5 (k0_pay15 q) (k0_pay16 fq) kt fk M (ix2 r 0) * L (ix2 r 0) + ∑ l : Fin 512, k0_pay6 (k0_pay15 q) (k0_pay16 fq) kt fk M (ix2 r l) := by
  unfold k0_pay7
  generalize k0_pay5 (k0_pay15 q) (k0_pay16 fq) kt fk M = S
  generalize k0_pay6 (k0_pay15 q) (k0_pay16 fq) kt fk M = T
  pointwise

theorem pay8_at (r : Fin 512) (e : Fin 128) : k0_pay8 (k0_pay15 q) (k0_pay16 fq) kt fk vt M A (ix2 r e)
    = k0_pay5 (k0_pay15 q) (k0_pay16 fq) kt fk M (ix2 r 0) * A (ix2 r e)
      + ∑ l : Fin 512, k0_pay6 (k0_pay15 q) (k0_pay16 fq) kt fk M (ix2 r l) * vt (ix3 0 l e) := by
  unfold k0_pay8
  generalize k0_pay5 (k0_pay15 q) (k0_pay16 fq) kt fk M = S
  generalize k0_pay6 (k0_pay15 q) (k0_pay16 fq) kt fk M = T
  pointwise

theorem pay25_at (r l : Fin 512) : k0_pay25 (k0_pay24 q fq kt) fk (ix2 r l)
    = if l ≤ r then (∑ d : Fin 64, q (ix3 0 r d) * kt (ix3 0 d l)) + fq (ix3 0 r 0) - fk (ix3 0 0 l) else ⊥ := by
  pointwise [k0_pay25, k0_pay24, k0_pay15, k0_pay16]
  rw [mask_eq]
  have h : IntOp.cmpi CmpIPredicate.sle (BitVec.ofNat 32 l.val) (BitVec.ofNat 32 r.val) = 1#1 ↔ l ≤ r :=
    WordCmp.cmpi_sle_ofNat_eq_one_iff (by have := l.isLt; omega) (by have := r.isLt; omega)
  unfold Scalar.select
  by_cases hl : l ≤ r
  · rw [if_pos hl]; exact if_pos (h.mpr hl)
  · rw [if_neg hl]; exact if_neg fun e => hl (h.mp e)

theorem pay26_at (S : FVec Ideal S512x512 .f32) (r : Fin 512) : k0_pay26 S fk M (ix2 r 0)
    = max (M (ix2 r 0)) (Finset.univ.fold max ⊥ fun l : Fin 512 => k0_pay25 S fk (ix2 r l)) := by
  unfold k0_pay26
  generalize k0_pay25 S fk = S
  pointwise
  rw [ofBits_neg_inf]

theorem pay27_at (S : FVec Ideal S512x512 .f32) (r : Fin 512) : k0_pay27 S fk M (ix2 r 0)
    = Ideal.exp (M (ix2 r 0) - k0_pay26 S fk M (ix2 r 0)) := by
  unfold k0_pay27
  generalize k0_pay26 S fk M = T
  pointwise

theorem pay28_at (S : FVec Ideal S512x512 .f32) (r l : Fin 512) : k0_pay28 S fk M (ix2 r l)
    = Ideal.exp (k0_pay25 S fk (ix2 r l) - k0_pay26 S fk M (ix2 r 0)) := by
  unfold k0_pay28
  generalize k0_pay26 S fk M = T
  generalize k0_pay25 S fk = S
  pointwise

theorem pay29_at (S : FVec Ideal S512x512 .f32) (r : Fin 512) : k0_pay29 S fk M L (ix2 r 0)
    = k0_pay27 S fk M (ix2 r 0) * L (ix2 r 0) + ∑ l : Fin 512, k0_pay28 S fk M (ix2 r l) := by
  unfold k0_pay29
  generalize k0_pay28 S fk M = T
  generalize k0_pay27 S fk M = U
  pointwise

theorem pay30_at (S : FVec Ideal S512x512 .f32) (r : Fin 512) (e : Fin 128) : k0_pay30 S fk vt M A (ix2 r e)
    = k0_pay27 S fk M (ix2 r 0) * A (ix2 r e) + ∑ l : Fin 512, k0_pay28 S fk M (ix2 r l) * vt (ix3 0 l e) := by
  unfold k0_pay30
  generalize k0_pay28 S fk M = T
  generalize k0_pay27 S fk M = U
  pointwise

/-- The stored block: the head's half of the weighted values over the sum. -/
theorem pay2_at (h : Fin 8) (lo hi : Vec Ideal S512x64 .f32) (r : Fin 512) (d : Fin 64) : k0_pay2 (BitVec.ofNat 32 h.val) lo hi L (ix3 0 r d)
    = Ideal.div (if h.val % 2 = 0 then lo (ix2 r d) else hi (ix2 r d)) (L (ix2 r 0)) := by
  unfold k0_pay2
  fin_cases h <;> pointwise <;> rfl

end Cert.KernelIdeal.Fox

end
-- ==== Proof.Online.lean ====
/-
  The running softmax over the extended reals, for one row: real scores, extended-real values. Whatever real number the
  running maximum is, one step keeps the running sum equal to the sum of the exponentials relative to it, and the running
  weighted values equal to the exponentials times the values; the quotient does not depend on it.
-/
module

public import Idealize.ShloMosaic.PureOps.Ideal.Laws

@[expose] public section

noncomputable section

open Idealize.ShloMosaic

namespace Cert.Online

open Finset

/-- The exponential of a real score, as an extended real. -/
abbrev ex (x : ℝ) : EReal := ((Real.exp x : ℝ) : EReal)

theorem exp_sub (a b : ℝ) : Ideal.exp ((a : EReal) - (b : EReal)) = ex (a - b) := by
  rw [← EReal.coe_sub, Ideal.exp_coe]

theorem exp_bot_sub (b : ℝ) : Ideal.exp ((⊥ : EReal) - (b : EReal)) = 0 := by
  rw [EReal.bot_sub, Ideal.exp_bot]

/-- A nonnegative real factor goes into a sum of extended reals. -/
theorem coe_mul_sum {ι : Type} (c : ℝ) (hc : 0 ≤ c) (S : Finset ι) (f : ι → EReal) :
    (c : EReal) * ∑ j ∈ S, f j = ∑ j ∈ S, (c : EReal) * f j := by
  classical
  induction S using Finset.induction_on with
  | empty => simp
  | insert a S ha ih =>
    rw [sum_insert ha, sum_insert ha, EReal.left_distrib_of_nonneg_of_ne_top (EReal.coe_nonneg.mpr hc) (EReal.coe_ne_top c), ih]

/-- A sum of real numbers is a real number. -/
theorem coe_sum {ι : Type} (S : Finset ι) (f : ι → ℝ) : ∑ j ∈ S, ((f j : ℝ) : EReal) = ((∑ j ∈ S, f j : ℝ) : EReal) := by
  classical
  induction S using Finset.induction_on with
  | empty => simp
  | insert a S ha ih => rw [sum_insert ha, sum_insert ha, EReal.coe_add, ih]

/-- The weighted values over the first `n` columns, relative to `m`. -/
def wsum (s : ℕ → ℝ) (v : ℕ → EReal) (m : ℝ) (n : ℕ) : EReal := ∑ j ∈ range n, ex (s j - m) * v j

/-- Changing the number the scores are relative to. -/
theorem wsum_rescale (s : ℕ → ℝ) (v : ℕ → EReal) (m m' : ℝ) (n : ℕ) :
    ex (m - m') * wsum s v m n = wsum s v m' n := by
  unfold wsum
  rw [coe_mul_sum _ (Real.exp_pos _).le]
  refine sum_congr rfl fun j _ => ?_
  rw [← mul_assoc, ← EReal.coe_mul, ← Real.exp_add]
  congr 3; ring_nf

/-- The tile of `K` columns that follows the first `n`, those past the `p`-th masked. -/
theorem wsum_tile (s : ℕ → ℝ) (v : ℕ → EReal) (m : ℝ) (n K p : ℕ) (hp : p ≤ K) (w : Fin K → EReal)
    (hw : ∀ k : Fin K, w k = if k.val < p then ex (s (n + k) - m) * v (n + k) else 0) :
    wsum s v m n + ∑ k : Fin K, w k = wsum s v m (n + p) := by
  unfold wsum
  rw [sum_range_add, sum_congr rfl (fun k _ => hw k), Fin.sum_univ_eq_sum_range (fun k => if k < p then ex (s (n + k) - m) * v (n + k) else 0) K,
    ← sum_filter]
  congr 1
  refine sum_congr ?_ fun _ _ => rfl
  ext k
  simp only [mem_filter, mem_range]
  omega

/-- The maximum of finitely many scores, each real or masked, above a real number is real. -/
theorem max_fold_real {ι : Type} (S : Finset ι) (m : ℝ) (t : ι → EReal) (ht : ∀ k, t k ≠ ⊤) :
    ∃ m' : ℝ, max (m : EReal) (S.fold max ⊥ t) = m' := by
  have h : S.fold max ⊥ t ≠ ⊤ := by
    classical
    induction S using Finset.induction_on with
    | empty => simp
    | insert a S ha ih =>
      rw [fold_insert ha]
      rcases max_choice (t a) (S.fold max ⊥ t) with h | h <;> rw [h]
      · exact ht a
      · exact ih
  rcases max_choice (m : EReal) (S.fold max ⊥ t) with h' | h'
  · exact ⟨m, h'⟩
  · refine ⟨(S.fold max ⊥ t).toReal, ?_⟩
    rw [h', EReal.coe_toReal h]
    intro hb
    rw [hb] at h'
    have := le_max_left (m : EReal) ⊥
    rw [h'] at this
    exact absurd (le_bot_iff.mp this) (EReal.coe_ne_bot m)

/-- The sum of the first `n` exponentials is a positive real number. -/
theorem wsum_one (s : ℕ → ℝ) (m : ℝ) (n : ℕ) : wsum s (fun _ => 1) m n = ((∑ j ∈ range n, Real.exp (s j - m) : ℝ) : EReal) := by
  unfold wsum
  rw [← coe_sum]
  exact sum_congr rfl fun j _ => mul_one _

theorem sum_exp_pos (s : ℕ → ℝ) (m : ℝ) (n : ℕ) (hn : 0 < n) : 0 < ∑ j ∈ range n, Real.exp (s j - m) :=
  sum_pos (fun _ _ => Real.exp_pos _) ⟨0, mem_range.mpr hn⟩

/-- The softmax weight of column `j` among the first `n`. -/
def weight (s : ℕ → ℝ) (n j : ℕ) : ℝ := Real.exp (s j) / ∑ i ∈ range n, Real.exp (s i)

theorem weight_eq (s : ℕ → ℝ) (m : ℝ) (n j : ℕ) : Real.exp (s j - m) / ∑ i ∈ range n, Real.exp (s i - m) = weight s n j := by
  unfold weight
  simp only [Real.exp_sub, ← sum_div]
  rw [div_div_div_cancel_right₀ (Real.exp_pos m).ne']

/-- The attention of one row: the values of the first `n` columns weighted by the softmax of their scores. -/
def attn (s : ℕ → ℝ) (v : ℕ → EReal) (n : ℕ) : EReal := ∑ j ∈ range n, ((weight s n j : ℝ) : EReal) * v j

/-- The quotient of the running weighted values by the running sum is the attention. -/
theorem div_wsum (s : ℕ → ℝ) (v : ℕ → EReal) (m : ℝ) (n : ℕ) (hn : 0 < n) :
    Ideal.div (wsum s v m n) (wsum s (fun _ => 1) m n) = attn s v n := by
  have hpos := sum_exp_pos s m n hn
  rw [wsum_one, Ideal.div_coe hpos.ne', mul_comm]
  unfold wsum attn
  rw [coe_mul_sum _ (by positivity)]
  refine sum_congr rfl fun j _ => ?_
  rw [← mul_assoc, ← EReal.coe_mul, ← weight_eq s m n j]
  congr 2
  field_simp

/-- One normalized exponential times a value. -/
theorem div_ex (s : ℕ → ℝ) (m : ℝ) (n j : ℕ) (hn : 0 < n) :
    Ideal.div (ex (s j - m)) (wsum s (fun _ => 1) m n) = ((weight s n j : ℝ) : EReal) := by
  have hpos := sum_exp_pos s m n hn
  rw [wsum_one, Ideal.div_coe hpos.ne', ← EReal.coe_mul, ← weight_eq s m n j]
  congr 1
  field_simp

end Cert.Online

end
-- ==== Proof.Rows.lean ====
/-
  One grid point's block, row by row: after the loop and the diagonal tile the running quantities of a row are the sums
  over the columns up to the row's own position, so the stored block is the attention of its rows.
-/
module

public import proofs.«01_k».proof.Proof.Pay
public import proofs.«01_k».proof.Proof.Online
public import Idealize.ShloMosaic.Lib.Pipeline.ValueKit.Tiles

@[expose] public section

set_option maxRecDepth 16384

noncomputable section

open Idealize.ShloMosaic Idealize.ShloMosaic.TcCoe Idealize.ShloMosaic.Pointwise

namespace Cert.KernelIdeal.Fox

open Cert.KernelIdeal Cert.KernelIdeal.Gen Cert.Online

/-- The loop before the diagonal visits as many tiles as the point's query block comes after the first. -/
theorem trips1 (i : grid0.Coords) : (k0_t1_loop i).trips = (i 1).val := by
  have h : ∀ b : Fin 32, Scf.trips 0#32 (Scalar.addi 0#32 (Scalar.muli (Scalar.divsi (Scalar.subi (BitVec.ofNat 32 b.val) 0#32) 1#32) 1#32)) 1#32 = b.val := by
    decide
  exact h (i 1)

/-- A load through a unit rectangle, its offsets rewritten, at an index. -/
theorem ld_at {s : Shape} {e : EltTy} (X : s.Idx → Elt Ideal e) {off off' size : Fin s.rank → ℕ} (h : off = off') (inb)
    (x : (Rect.unit off size inb).shape.Idx) (i : s.Idx) (hi : ∀ a, (i a : ℕ) = off' a + x a) :
    View.ld (Val := Elt Ideal) X (Rect.unit off size inb) x = X i :=
  View.ld_unit_apply_of X off size inb x i fun a => (hi a).trans (congrArg (· + (x a).val) (congrFun h a).symm)

/-- Row `r`'s running quantities cover the first `n` columns: scores `s`, values `v e` in lane `e`. -/
def Row (s : ℕ → ℝ) (v : Fin 128 → ℕ → EReal) (r : Fin 512) (n : ℕ) (S : St Ideal) : Prop :=
  ∃ m : ℝ, S.1 (ix2 r 0) = (m : EReal) ∧ S.2.1 (ix2 r 0) = wsum s (fun _ => 1) m n ∧ ∀ e, S.2.2 (ix2 r e) = wsum s (v e) m n

variable (q : Vec Ideal S1x512x64 .bf16) (fq : Vec Ideal S1x512x1 .f32) (kt : Vec Ideal S1x64x512 .bf16) (fk : Vec Ideal S1x1x512 .f32)
  (vt : Vec Ideal S1x512x128 .bf16) (S : St Ideal)

theorem row_init (s : ℕ → ℝ) (v : Fin 128 → ℕ → EReal) (r : Fin 512) : Row s v r 0 (k0_pay17, k0_pay18, k0_pay19) := by
  obtain ⟨m, hm⟩ := pay17_at r
  exact ⟨m, hm, pay18_at r, fun e => pay19_at r e⟩

theorem row_full (s : ℕ → ℝ) (v : Fin 128 → ℕ → EReal) (r : Fin 512) (n : ℕ) (h : Row s v r n S)
    (hs : ∀ l : Fin 512, (∑ d : Fin 64, q (ix3 0 r d) * kt (ix3 0 d l)) + fq (ix3 0 r 0) - fk (ix3 0 0 l) = ((s (n + l.val) : ℝ) : EReal))
    (hv : ∀ l e, vt (ix3 0 l e) = v e (n + l.val)) : Row s v r (n + 512) (stepFull q fq kt fk vt S) := by
  obtain ⟨m, hm, hl, ha⟩ := h
  have h3 : ∀ l, k0_pay3 (k0_pay15 q) (k0_pay16 fq) kt fk (ix2 r l) = ((s (n + l.val) : ℝ) : EReal) := fun l => (pay3_at q fq kt fk r l).trans (hs l)
  obtain ⟨m', hm'⟩ := max_fold_real Finset.univ m (fun l : Fin 512 => k0_pay3 (k0_pay15 q) (k0_pay16 fq) kt fk (ix2 r l))
    (fun l => by rw [h3]; exact EReal.coe_ne_top _)
  have h4 : k0_pay4 (k0_pay15 q) (k0_pay16 fq) kt fk S.1 (ix2 r 0) = (m' : EReal) := by rw [pay4_at, hm, hm']
  have h5 : k0_pay5 (k0_pay15 q) (k0_pay16 fq) kt fk S.1 (ix2 r 0) = ex (m - m') := by rw [pay5_at, h4, hm, exp_sub]
  have h6 : ∀ l, k0_pay6 (k0_pay15 q) (k0_pay16 fq) kt fk S.1 (ix2 r l) = ex (s (n + l.val) - m') := fun l => by rw [pay6_at, h3, h4, exp_sub]
  refine ⟨m', h4, ?_, fun e => ?_⟩
  · show k0_pay7 (k0_pay15 q) (k0_pay16 fq) kt fk S.1 S.2.1 (ix2 r 0) = _
    rw [pay7_at, h5, hl, wsum_rescale]
    exact wsum_tile s _ m' n 512 512 le_rfl _ fun l => by rw [h6, if_pos l.isLt, mul_one]
  · show k0_pay8 (k0_pay15 q) (k0_pay16 fq) kt fk vt S.1 S.2.2 (ix2 r e) = _
    rw [pay8_at, h5, ha, wsum_rescale]
    exact wsum_tile s _ m' n 512 512 le_rfl _ fun l => by rw [h6, if_pos l.isLt, hv]

theorem row_diag (s : ℕ → ℝ) (v : Fin 128 → ℕ → EReal) (r : Fin 512) (n : ℕ) (h : Row s v r n S)
    (hs : ∀ l : Fin 512, (∑ d : Fin 64, q (ix3 0 r d) * kt (ix3 0 d l)) + fq (ix3 0 r 0) - fk (ix3 0 0 l) = ((s (n + l.val) : ℝ) : EReal))
    (hv : ∀ l e, vt (ix3 0 l e) = v e (n + l.val)) : Row s v r (n + (r.val + 1)) (stepDiag q fq kt fk vt S) := by
  obtain ⟨m, hm, hl, ha⟩ := h
  have hr : r.val + 1 ≤ 512 := r.isLt
  have h3 : ∀ l, k0_pay25 (k0_pay24 q fq kt) fk (ix2 r l) = if l.val < r.val + 1 then ((s (n + l.val) : ℝ) : EReal) else ⊥ := fun l => by
    rw [pay25_at, hs]
    exact if_congr (Nat.lt_succ_iff).symm rfl rfl
  obtain ⟨m', hm'⟩ := max_fold_real Finset.univ m (fun l : Fin 512 => k0_pay25 (k0_pay24 q fq kt) fk (ix2 r l))
    (fun l => by rw [h3]; split_ifs; exacts [EReal.coe_ne_top _, bot_ne_top])
  have h4 : k0_pay26 (k0_pay24 q fq kt) fk S.1 (ix2 r 0) = (m' : EReal) := by rw [pay26_at, hm, hm']
  have h5 : k0_pay27 (k0_pay24 q fq kt) fk S.1 (ix2 r 0) = ex (m - m') := by rw [pay27_at, h4, hm, exp_sub]
  have h6 : ∀ l, k0_pay28 (k0_pay24 q fq kt) fk S.1 (ix2 r l) = if l.val < r.val + 1 then ex (s (n + l.val) - m') else 0 := fun l => by
    rw [pay28_at, h3, h4]
    split_ifs
    · rw [exp_sub]
    · rw [exp_bot_sub]
  refine ⟨m', h4, ?_, fun e => ?_⟩
  · show k0_pay29 (k0_pay24 q fq kt) fk S.1 S.2.1 (ix2 r 0) = _
    rw [pay29_at, h5, hl, wsum_rescale]
    exact wsum_tile s _ m' n 512 (r.val + 1) hr _ fun l => by rw [h6, mul_one]
  · show k0_pay30 (k0_pay24 q fq kt) fk vt S.1 S.2.2 (ix2 r e) = _
    rw [pay30_at, h5, ha, wsum_rescale]
    exact wsum_tile s _ m' n 512 (r.val + 1) hr _ fun l => by
      rw [h6, hv]
      split_ifs
      · rfl
      · rw [zero_mul]

section point

variable (i : grid0.Coords) (x0 : Vec Ideal S1x512x64 .bf16) (x1 : Vec Ideal S1x64x16384 .bf16) (x2 : Vec Ideal S1x16384x128 .bf16)
  (x3 : Vec Ideal S1x512x1 .f32) (x4 : Vec Ideal S1x1x16384 .f32)

/-- Lane `e` of the values, by column. -/
def lane (e : Fin 128) (j : ℕ) : EReal := if h : j < 16384 then x2 (ix3 0 ⟨j, h⟩ e) else 0

variable (s : ℕ → ℝ) (r : Fin 512)
  (hs : ∀ j : Fin 16384, (∑ d : Fin 64, x0 (ix3 0 r d) * x1 (ix3 0 d j)) + x3 (ix3 0 r 0) - x4 (ix3 0 0 j) = ((s j.val : ℝ) : EReal))

include hs

theorem row_loop (n : ℕ) (hn : n ≤ (k0_t1_loop i).trips) : Row s (lane x2) r (512 * n) (st i x0 x1 x2 x3 x4 n) := by
  induction n with
  | zero => exact row_init s _ r
  | succ n ih =>
    have hlt : n < (k0_t1_loop i).trips := hn
    have hb : n < 32 := by have := trips1 i; have : (i 1).val < 32 := (i 1).isLt; omega
    rw [st, dif_pos hlt]
    have hj : ∀ l : Fin 512, 512 * n + l.val < 16384 := fun l => by have := l.isLt; omega
    refine row_full _ _ _ _ _ _ s _ r (512 * n) (ih (by omega)) (fun l => ?_) (fun l e => ?_)
    · rw [← hs ⟨512 * n + l.val, hj l⟩]
      have e4 : View.ld (Val := Elt Ideal) (e' := .f32) x4 (Rect.unit (s := S1x1x16384) (k0_off2 i ⟨n, hlt⟩) S1x1x512.size (k0_off2_inb i ⟨n, hlt⟩)) (ix3 0 0 l)
          = x4 (ix3 0 0 ⟨512 * n + l.val, hj l⟩) :=
        ld_at _ (k0_off2_eq ..) _ _ _ fun a => by fin_cases a <;> simp [ix3]
      have e1 : ∀ d : Fin 64, View.ld (Val := Elt Ideal) (e' := .bf16) x1 (Rect.unit (s := S1x64x16384) (k0_off1 i ⟨n, hlt⟩) S1x64x512.size (k0_off1_inb i ⟨n, hlt⟩)) (ix3 0 d l)
          = x1 (ix3 0 d ⟨512 * n + l.val, hj l⟩) := fun d =>
        ld_at _ (k0_off1_eq ..) _ _ _ fun a => by fin_cases a <;> simp [ix3]
      rw [e4]
      simp only [e1]
    · unfold lane
      rw [dif_pos (hj l)]
      exact ld_at _ (k0_off3_eq ..) _ _ _ fun a => by fin_cases a <;> simp [ix3]

theorem row_end : Row s (lane x2) r (512 * (i 1).val + (r.val + 1)) (stEnd i x0 x1 x2 x3 x4) := by
  have hb : (i 1).val < 32 := (i 1).isLt
  have hj : ∀ l : Fin 512, 512 * (i 1).val + l.val < 16384 := fun l => by have := l.isLt; omega
  have h := row_loop i x0 x1 x2 x3 x4 s r hs _ le_rfl
  rw [trips1] at h
  unfold stEnd
  rw [trips1]
  refine row_diag _ _ _ _ _ _ s _ r (512 * (i 1).val) h (fun l => ?_) (fun l e => ?_)
  · rw [← hs ⟨512 * (i 1).val + l.val, hj l⟩]
    have e4 : View.ld (Val := Elt Ideal) (e' := .f32) x4 (Rect.unit (s := S1x1x16384) (k0_off8 i) S1x1x512.size (k0_off8_inb i)) (ix3 0 0 l)
        = x4 (ix3 0 0 ⟨512 * (i 1).val + l.val, hj l⟩) :=
      ld_at _ (k0_off8_eq ..) _ _ _ fun a => by fin_cases a <;> simp [ix3]
    have e1 : ∀ d : Fin 64, View.ld (Val := Elt Ideal) (e' := .bf16) x1 (Rect.unit (s := S1x64x16384) (k0_off7 i) S1x64x512.size (k0_off7_inb i)) (ix3 0 d l)
        = x1 (ix3 0 d ⟨512 * (i 1).val + l.val, hj l⟩) := fun d =>
      ld_at _ (k0_off7_eq ..) _ _ _ fun a => by fin_cases a <;> simp [ix3]
    rw [e4]
    simp only [e1]
  · unfold lane
    rw [dif_pos (hj l)]
    exact ld_at _ (k0_off9_eq ..) _ _ _ fun a => by fin_cases a <;> simp [ix3]

/-- The stored block at row `r`, column `d`: the attention of the row over the columns up to its own position, the values
    in the lane of the point's head. -/
theorem block_at (d : Fin 64) :
    k0_pay2 (BitVec.ofNat 32 (i 0).val)
        (View.ld (Val := Elt Ideal) (stEnd i x0 x1 x2 x3 x4).2.2 (Rect.unit (s := S512x128) ![0, 0] ![512, 64] inb_S512x128_S512x64_0_0))
        (View.ld (Val := Elt Ideal) (stEnd i x0 x1 x2 x3 x4).2.2 (Rect.unit (s := S512x128) ![0, 64] ![512, 64] inb_S512x128_S512x64_0_64))
        (stEnd i x0 x1 x2 x3 x4).2.1 (ix3 0 r d)
      = attn s (lane x2 ⟨64 * ((i 0).val % 2) + d.val, by have := d.isLt; omega⟩) (512 * (i 1).val + (r.val + 1)) := by
  obtain ⟨m, -, hl, ha⟩ := row_end i x0 x1 x2 x3 x4 s r hs
  rw [pay2_at (h := i 0), hl, ← div_wsum s _ m _ (by omega)]
  congr 1
  rw [← ha]
  rcases Nat.mod_two_eq_zero_or_one (i 0).val with h | h
  · rw [if_pos h]
    exact View.ld_unit_apply_of _ _ _ _ _ _ fun a => by fin_cases a <;> simp [ix2, h]
  · rw [if_neg (by omega)]
    exact View.ld_unit_apply_of _ _ _ _ _ _ fun a => by fin_cases a <;> simp [ix2, h]

end point

end Cert.KernelIdeal.Fox

end
-- ==== Proof.Spec.lean ====
/-
  The mathematics of the layer's forgetting attention, on the two argument arrays: the scores of a head's query row against
  every column, the head's values, and the array of attention rows.
-/
module

public import proofs.«01_k».proof.Proof.Online
public import Idealize.ShloMosaic.Lib.Pipeline.ValueKit.Tiles
public import Idealize.ShloMosaic.Lib.Pointwise

@[expose] public section

noncomputable section

open Idealize.ShloMosaic Idealize.ShloMosaic.Pointwise

namespace Cert.Fox

open Cert.Online Finset

/-- The queries, keys and values side by side. -/
abbrev SX : Shape := ⟨2, ![16384, 1536]⟩
/-- The running log decay of each head. -/
abbrev SF : Shape := ⟨2, ![16384, 8]⟩

variable (X : SX.Idx → EReal) (F : SF.Idx → EReal)

/-- Query, key and value of a position, by head and lane. -/
def qy (h : Fin 8) (j : Fin 16384) (d : Fin 64) : EReal := X (ix2 j ⟨64 * h.val + d.val, by have := h.isLt; have := d.isLt; omega⟩)
def ky (h : Fin 8) (j : Fin 16384) (d : Fin 64) : EReal := X (ix2 j ⟨512 + (64 * h.val + d.val), by have := h.isLt; have := d.isLt; omega⟩)
def vy (h : Fin 8) (j : Fin 16384) (d : Fin 64) : EReal := X (ix2 j ⟨1024 + (64 * h.val + d.val), by have := h.isLt; have := d.isLt; omega⟩)
/-- Decay of a position, by head. -/
def dy (h : Fin 8) (j : Fin 16384) : EReal := F (ix2 j h)

/-- The score of column `j` for the query at `row`: the dot product plus the difference of the decays. -/
def sc (h : Fin 8) (row : Fin 16384) (j : ℕ) : ℝ :=
  if hj : j < 16384 then (∑ d, (qy X h row d).toReal * (ky X h ⟨j, hj⟩ d).toReal) + ((dy F h row).toReal - (dy F h ⟨j, hj⟩).toReal) else 0

/-- Lane `d` of head `h`'s values, by column. -/
def vals (h : Fin 8) (d : Fin 64) (j : ℕ) : EReal := if hj : j < 16384 then vy X h ⟨j, hj⟩ d else 0

/-- The attention of a head's row in one lane: over the columns up to and including the row's own. -/
def out (h : Fin 8) (row : Fin 16384) (d : Fin 64) : EReal := attn (sc X F h row) (vals X h d) (row.val + 1)

/-- What the scores need: finite queries, keys and decays. -/
structure Finite : Prop where
  q : ∀ h j d, qy X h j d ≠ ⊤ ∧ qy X h j d ≠ ⊥
  k : ∀ h j d, ky X h j d ≠ ⊤ ∧ ky X h j d ≠ ⊥
  d : ∀ h j, dy F h j ≠ ⊤ ∧ dy F h j ≠ ⊥

variable {X F}

/-- With finite operands a score is the real number `sc`, the decays' difference added at the end. -/
theorem score_eq (hf : Finite X F) (h : Fin 8) (row j : Fin 16384) :
    (∑ d, qy X h row d * ky X h j d) + (dy F h row - dy F h j) = ((sc X F h row j.val : ℝ) : EReal) := by
  unfold sc
  rw [dif_pos j.isLt]
  simp only [EReal.coe_add, EReal.coe_sub, Fin.eta]
  rw [EReal.coe_toReal (hf.d h row).1 (hf.d h row).2, EReal.coe_toReal (hf.d h j).1 (hf.d h j).2, ← coe_sum]
  congr 1
  refine sum_congr rfl fun d _ => ?_
  rw [EReal.coe_mul, EReal.coe_toReal (hf.q h row d).1 (hf.q h row d).2, EReal.coe_toReal (hf.k h j d).1 (hf.k h j d).2]

/-- The same with the query's decay added before the key's is taken away. -/
theorem score_eq' (hf : Finite X F) (h : Fin 8) (row j : Fin 16384) :
    (∑ d, qy X h row d * ky X h j d) + dy F h row - dy F h j = ((sc X F h row j.val : ℝ) : EReal) := by
  rw [← score_eq hf, sub_eq_add_neg, sub_eq_add_neg, add_assoc]

end Cert.Fox
-- ==== Proof.KArr.lean ====
/-
  What the kernel's result array holds: the attention of every head's row, read off the blocks the grid writes back.
-/
module

public import proofs.«01_k».proof.Proof.Rows
public import proofs.«01_k».proof.Proof.Spec
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.KernelIdeal.Fox

open Cert.KernelIdeal Cert.KernelIdeal.Gen Cert.Online Cert.Fox

variable (m : (ℓ : Loc nD τ sig) → Buf (Elt Ideal) ℓ) (c : Dev nD)

/-- The two argument arrays. -/
abbrev aX : SX.Idx → EReal := m ((c : Thread nD τ).loc main_arg0)
abbrev aF : SF.Idx → EReal := m ((c : Thread nD τ).loc main_arg1)

/-! ## The operands of the call, from the arguments -/

/-- The queries by head. -/
theorem V_q (h : Fin 8) (j : Fin 16384) (d : Fin 64) : (V m c main_v15 : Vec Ideal S8x16384x64 .bf16) (ix3 h j d) = qy (aX m c) h j d := by
  unfold V
  after_results
  pointwise
  exact congrArg (aX m c) (congrArg (ix2 j) (Fin.ext (by simp only []; omega)))

/-- The keys by head, transposed. -/
theorem V_k (h : Fin 8) (d : Fin 64) (j : Fin 16384) : (V m c main_v8 : Vec Ideal S8x64x16384 .bf16) (ix3 h d j) = ky (aX m c) h j d := by
  unfold V
  after_results
  pointwise
  exact congrArg (aX m c) (congrArg (ix2 j) (Fin.ext (by simp only []; omega)))

/-- The values of a pair of heads side by side. -/
theorem V_v (p : Fin 4) (j : Fin 16384) (e : Fin 128) : (V m c main_v13 : Vec Ideal S4x16384x128 .bf16) (ix3 p j e)
    = vy (aX m c) ⟨2 * p.val + e.val / 64, by have := p.isLt; have := e.isLt; omega⟩ j ⟨e.val % 64, by omega⟩ := by
  unfold V
  after_results
  pointwise
  exact congrArg (aX m c) (congrArg (ix2 j) (Fin.ext (by simp only []; omega)))

/-- The decays as columns and as rows. -/
theorem V_fq (h : Fin 8) (j : Fin 16384) : (V m c main_v3 : Vec Ideal S8x16384x1 .f32) (ix3 h j 0) = dy (aF m c) h j := by
  unfold V
  after_results
  pointwise
  rfl

theorem V_fk (h : Fin 8) (j : Fin 16384) : (V m c main_v5 : Vec Ideal S8x1x16384 .f32) (ix3 h 0 j) = dy (aF m c) h j := by
  unfold V
  after_results
  pointwise
  rfl

/-! ## The blocks a grid point reads -/

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, 0, 0] := (by decide +kernel : ∀ t : Fin grid0.N, _)
/-- The pair of heads a point's values are stored with. -/
def pr (t : Fin grid0.N) : Fin 4 := ⟨(grid0.coords t 0).val / 2, by have : (grid0.coords t 0).val < 8 := (grid0.coords t 0).isLt; omega⟩
theorem idx2 : ∀ t : Fin cfg0.N, win0_2.index t = ![(pr t).val, 0, 0] := (by decide +kernel : ∀ t : Fin grid0.N, _)
theorem idx3 : ∀ t : Fin cfg0.N, win0_3.index t = ![(grid0.coords t 0).val, (grid0.coords t 1).val, 0] := (by decide +kernel : ∀ t : Fin grid0.N, _)
theorem idx4 : ∀ t : Fin cfg0.N, win0_4.index t = ![(grid0.coords t 0).val, 0, 0] := (by decide +kernel : ∀ t : Fin grid0.N, _)
theorem idx5 : ∀ t : Fin cfg0.N, win0_5.index t = ![(grid0.coords t 0).val, (grid0.coords t 1).val, 0] := (by decide +kernel : ∀ t : Fin grid0.N, _)

variable (t : Fin cfg0.N)

/-- The head and the query row of a point. -/
def hd : Fin 8 := grid0.coords t 0
def rw' (r : Fin 512) : Fin 16384 := ⟨512 * (grid0.coords t 1).val + r.val, by have : (grid0.coords t 1).val < 32 := (grid0.coords t 1).isLt; have := r.isLt; omega⟩

theorem blk_q (r : Fin 512) (d : Fin 64) : (iblk m c 0 t : Vec Ideal S1x512x64 .bf16) (ix3 0 r d) = qy (aX m c) (hd t) (rw' t r) d := by
  rw [← V_q]
  blk_simp [iblk, idx0]
  refine congrArg (V m c main_v15) ?_
  blk_ext [idx0, hd, rw']

theorem blk_k (d : Fin 64) (j : Fin 16384) : (iblk m c 1 t : Vec Ideal S1x64x16384 .bf16) (ix3 0 d j) = ky (aX m c) (hd t) j d := by
  rw [← V_k]
  blk_simp [iblk, idx1]
  refine congrArg (V m c main_v8) ?_
  blk_ext [idx1, hd]

theorem emb_v (j : Fin 16384) (e : Fin 128) : ((win0_2.rect t).emb (ix3 0 j e : S1x16384x128.Idx) : S4x16384x128.Idx) = ix3 (pr t) j e := by
  have h := Pipeline.Window.rect_emb_val win0_2 t (ix3 0 j e : S1x16384x128.Idx)
  rw [idx2] at h
  funext a
  apply Fin.ext
  rw [h]
  match a with
  | ⟨0, _⟩ => show (pr t).val * 1 + 0 = (pr t).val; omega
  | ⟨1, _⟩ => show 0 * 16384 + j.val = j.val; omega
  | ⟨2, _⟩ => show 0 * 128 + e.val = e.val; omega

/-- A block of the pairs' values, whatever the buffers hold. -/
theorem read_v (W : (b : Ref sig .tc) → Buf (Elt Ideal) ((c : Thread nD τ).loc b)) (j : Fin 16384) (e : Fin 128) :
    (((cfg0.win 2).blk t).view.read (Elt Ideal) (W (Pipeline.arrRef spec0 2)) : Vec Ideal S1x16384x128 .bf16) (ix3 0 j e)
    = (W main_v13 : Vec Ideal S4x16384x128 .bf16) (ix3 (pr t) j e) := by
  rw [View.read_apply]
  exact congrArg (W main_v13) (emb_v t j e)

theorem blk_v (j : Fin 16384) (e : Fin 128) : (iblk m c 2 t : Vec Ideal S1x16384x128 .bf16) (ix3 0 j e)
    = (V m c main_v13 : Vec Ideal S4x16384x128 .bf16) (ix3 (pr t) j e) := by
  exact read_v c t (V m c) j e

theorem blk_fq (r : Fin 512) : (iblk m c 3 t : Vec Ideal S1x512x1 .f32) (ix3 0 r 0) = dy (aF m c) (hd t) (rw' t r) := by
  rw [← V_fq]
  blk_simp [iblk, idx3]
  refine congrArg (V m c main_v3) ?_
  blk_ext [idx3, hd, rw']

theorem blk_fk (j : Fin 16384) : (iblk m c 4 t : Vec Ideal S1x1x16384 .f32) (ix3 0 0 j) = dy (aF m c) (hd t) j := by
  rw [← V_fk]
  blk_simp [iblk, idx4]
  refine congrArg (V m c main_v5) ?_
  blk_ext [idx4, hd]

/-- The lanes of the point's own head in the pair's values. -/
theorem lane_eq (d : Fin 64) : lane (iblk m c 2 t) ⟨64 * ((grid0.coords t 0).val % 2) + d.val, by have := d.isLt; omega⟩ = vals (aX m c) (hd t) d := by
  funext j
  unfold lane vals
  by_cases hj : j < 16384
  · rw [dif_pos hj, dif_pos hj]
    refine (blk_v m c t ⟨j, hj⟩ _).trans ((V_v m c _ _ _).trans ?_)
    have hd' := d.isLt
    have hh : (hd t).val = (grid0.coords t 0).val := rfl
    have hp : (pr t).val = (grid0.coords t 0).val / 2 := rfl
    congr 1 <;> ext <;> simp only [] <;> omega
  · rw [dif_neg hj, dif_neg hj]

/-- The result: the attention of every head's row in every lane. -/
def result : S8x16384x64.Idx → EReal := fun i => out (aX m c) (aF m c) (i 0) (i 1) (i 2)

theorem idx_row (y : S1x512x64.Idx) : ∃ (r : Fin 512) (d : Fin 64), y = ix3 (0 : Fin 1) r d :=
  ⟨y 1, y 2, (eq_ix3 y).trans (by rw [show y 0 = (0 : Fin 1) from Subsingleton.elim (α := Fin 1) _ _])⟩

/-- With finite queries, keys and decays the kernel's result array ends holding the attention. -/
theorem final (hf : Finite (aX m c) (aF m c)) : (dats m 0 c).arrAt 5 cfg0.N = result m c := by
  refine (dats m 0 c).arrAt_eq_of_covers 5 _ (by decide +kernel) fun t _ y => ?_
  rw [← Dat.flushed_apply, Value.flushed5_A, out_eq]
  obtain ⟨r, d, rfl⟩ := idx_row y
  blk_simp
  refine (block_at (grid0.coords t) _ _ _ _ _ (sc (aX m c) (aF m c) (hd t) (rw' t r)) r (fun j => ?_) d).trans ?_
  · simp only [blk_q, blk_k, blk_fq, blk_fk]
    exact score_eq' hf _ _ _
  · rw [lane_eq]
    have e : ((win0_5.blk t).view.emb (ix3 0 r d : S1x512x64.Idx) : S8x16384x64.Idx) = ix3 (hd t) (rw' t r) d := by
      blk_ext [idx5, hd, rw']
    exact (congrArg (fun n => attn (sc (aX m c) (aF m c) (hd t) (rw' t r)) (vals (aX m c) (hd t) d) n) (Nat.add_assoc _ _ _).symm).trans
      (congrArg (result m c) e).symm

end Cert.KernelIdeal.Fox
-- ==== Proof.Ref.lean ====
/-
  What the reference computes: the attention of every head's row, read stage by stage off its operations.
-/
module

public import proofs.«01_k».proof.Proof.Spec
public import proofs.«01_k».proof.Proof.Gen.ReferenceIdeal.Read
public import Idealize.ShloMosaic.Lib.WordCmp

@[expose] public section

set_option maxRecDepth 16384

noncomputable section

open Idealize.ShloMosaic Idealize.ShloMosaic.TcCoe Idealize.ShloMosaic.Pointwise

namespace Cert.ReferenceIdeal.Fox

open Cert.ReferenceIdeal Cert.ReferenceIdeal.Gen Cert.ReferenceIdeal.Read Cert.Online Cert.Fox Finset

theorem ofBits_inf : Ideal.ofBits .f32 0xFF800000#32 = ⊥ := by simp [Ideal.ofBits, Ideal.ieee]

/-- The largest of finitely many extended reals, one of them real and none `⊤`, is real. -/
theorem max_real {ι : Type} [Fintype ι] (t : ι → EReal) (ht : ∀ k, t k ≠ ⊤) (k₀ : ι) (x : ℝ) (hk : t k₀ = x) :
    ∃ m : ℝ, univ.fold max ⊥ t = m := by
  classical
  obtain ⟨m, hm⟩ := max_fold_real (univ.erase k₀) x t ht
  refine ⟨m, ?_⟩
  rw [← hm, ← hk, ← insert_erase (mem_univ k₀), fold_insert (notMem_erase k₀ _), erase_insert (notMem_erase k₀ _)]

/-- "Or" over a family with a member that holds. -/
theorem or_one {ι : Type} [Fintype ι] (b : ι → BitVec 1) (k₀ : ι) (hk : b k₀ = 1#1) : univ.fold IntOp.ori 0#1 b = 1#1 := by
  classical
  rw [← insert_erase (mem_univ k₀), fold_insert (notMem_erase k₀ _), hk]
  generalize fold IntOp.ori 0#1 b (univ.erase k₀) = y
  revert y
  decide

/-- A sum of finitely many terms of which only the first `p` count. -/
theorem sum_tail {K : ℕ} (f : ℕ → EReal) (p : ℕ) (hp : p ≤ K) : (∑ k : Fin K, if k.val < p then f k.val else 0) = ∑ j ∈ range p, f j := by
  rw [Fin.sum_univ_eq_sum_range (fun k => if k < p then f k else 0) K, ← sum_filter]
  congr 1
  ext k
  simp only [mem_filter, mem_range]
  omega

variable (X : SX.Idx → EReal) (F : SF.Idx → EReal)

theorem q_at (h : Fin 8) (j : Fin 16384) (d : Fin 64) : val_main_v5 (F := Ideal) X (ix3 h j d) = qy X h j d := by
  unfold val_main_v5 val_main_v4 val_main_v1 val_main_v0
  pointwise
  exact congrArg X (congrArg (ix2 j) (Fin.ext (by simp only []; omega)))

theorem k_at (h : Fin 8) (j : Fin 16384) (d : Fin 64) : val_main_v7 (F := Ideal) X (ix3 h j d) = ky X h j d := by
  unfold val_main_v7 val_main_v6 val_main_v2 val_main_v0
  pointwise
  exact congrArg X (congrArg (ix2 j) (Fin.ext (by simp only []; omega)))

theorem v_at (h : Fin 8) (j : Fin 16384) (d : Fin 64) : val_main_v9 (F := Ideal) X (ix3 h j d) = vy X h j d := by
  unfold val_main_v9 val_main_v8 val_main_v3 val_main_v0
  pointwise
  exact congrArg X (congrArg (ix2 j) (Fin.ext (by simp only []; omega)))

/-- The dot product of a query and a key. -/
theorem dot_at (h : Fin 8) (r j : Fin 16384) : val_main_v12 (F := Ideal) X (ix3 h r j) = ∑ d, qy X h r d * ky X h j d := by
  simp only [← q_at, ← k_at]
  unfold val_main_v12
  generalize val_main_v5 (F := Ideal) X = a
  generalize val_main_v7 (F := Ideal) X = b
  pointwise

/-- The difference of the decays. -/
theorem decay_at (h : Fin 8) (r j : Fin 16384) : val_main_v17 (F := Ideal) F (ix3 h r j) = dy F h r - dy F h j := by
  unfold val_main_v17 val_main_v16 val_main_v15 val_main_v14 val_main_v13 val_main_v10
  pointwise
  rfl

/-- A column is visible up to the row's own position. -/
theorem mask_at (r j : Fin 16384) : val_main_v23 (F := Ideal) (ix2 r j) = if j.val ≤ r.val then 1#1 else 0#1 := by
  unfold val_main_v23 val_main_v22 val_main_v21 val_main_v20 val_main_v19 val_main_v11
  pointwise
  have h := WordCmp.cmpi_sle_ofNat_eq_one_iff (w := 32) (a := j.val) (b := r.val) (by have := j.isLt; omega) (by have := r.isLt; omega)
  by_cases hle : j.val ≤ r.val
  · rw [if_pos hle]; exact h.mpr hle
  · rw [if_neg hle]
    have hne := mt h.mp hle
    generalize IntOp.cmpi CmpIPredicate.sle (BitVec.ofNat 32 j.val) (BitVec.ofNat 32 r.val) = y at hne ⊢
    revert y
    decide

/-- Some column is visible to every row: its own. -/
theorem any_at (r : Fin 16384) : val_main_v36 (F := Ideal) (ix1 r) = 1#1 := by
  have hd : val_main_v23 (F := Ideal) (ix2 r r) = 1#1 := by rw [mask_at, if_pos le_rfl]
  unfold val_main_v36
  generalize val_main_v23 (F := Ideal) = a at hd ⊢
  pointwise [val_main_c]
  exact or_one _ r hd

theorem one_at (h : Fin 8) (r j : Fin 16384) : val_main_v40 (F := Ideal) (ix3 h r j) = 1 := by
  have ha := any_at r
  unfold val_main_v40 val_main_v39 val_main_v38 val_main_v37
  generalize val_main_v36 (F := Ideal) = a at ha ⊢
  pointwise
  rw [ha]
  show ((((1#1 : BitVec 1).toNat : ℕ) : ℝ) : EReal) = 1
  simp

variable {X F} (hf : Fox.Finite X F)
include hf

/-- The masked scores. -/
theorem score_at (h : Fin 8) (r j : Fin 16384) :
    val_main_v24 (F := Ideal) X F (ix3 h r j) = if j.val ≤ r.val then ((sc X F h r j.val : ℝ) : EReal) else ⊥ := by
  have hm := mask_at r j
  rw [← score_eq hf, ← dot_at, ← decay_at]
  unfold val_main_v24 val_main_v18 val_main_call0_v1 val_main_call0_v2 val_main_call0_v0 val_main_cst
  generalize val_main_v12 (F := Ideal) X = a
  generalize val_main_v17 (F := Ideal) F = b
  generalize val_main_v23 (F := Ideal) = k at hm ⊢
  pointwise
  rw [hm]
  by_cases hle : j.val ≤ r.val
  · rw [if_pos hle, if_pos hle]; rfl
  · rw [if_neg hle, if_neg hle]; exact ofBits_inf

omit hf in
/-- The maximum over the columns, as a fold. -/
theorem reduce_max (a : FVec Ideal S8x16384x16384 .f32) (c : FVec Ideal S_ .f32) (i : S8x16384.Idx) :
    Host.reduce FloatOps.maximumf a c reducesTo_S8x16384x16384_S8x16384_d2 h_S_ i
      = univ.fold max (c (Shape.Idx.first h_S_)) (fun k : Fin 16384 => a (ix3 (i 0) (i 1) k)) := by
  simp only [pointwise]

/-- The number a row's scores are taken relative to is real. -/
theorem max_at (h : Fin 8) (r : Fin 16384) : ∃ m : ℝ, val_main_v27 (F := Ideal) X F (ix2 h r) = m := by
  obtain ⟨m, hm⟩ := max_real (fun k : Fin 16384 => val_main_v24 (F := Ideal) X F (ix3 h r k))
    (fun k => by rw [score_at hf]; split <;> simp) r (sc X F h r r.val) (by rw [score_at hf, if_pos le_rfl])
  refine ⟨m, ?_⟩
  rw [val_main_v27_apply, val_main_v26_apply, val_main_cst_1_apply, ← hm]
  have h25 : val_main_v25 (F := Ideal) X F (ix2 h r) = univ.fold max ⊥ (fun k : Fin 16384 => val_main_v24 (F := Ideal) X F (ix3 h r k)) :=
    (reduce_max _ _ _).trans (by rw [val_main_cst_0_apply]; exact congrArg (fun b => univ.fold max b _) ofBits_inf)
  rw [h25]
  exact (congrArg (max · _) ofBits_inf).trans (max_bot_left _)

/-- The exponentials of a row, relative to a real number: nothing at the columns not yet visible. -/
theorem exp_at (h : Fin 8) (r : Fin 16384) : ∃ m : ℝ, ∀ j : Fin 16384,
    val_main_v31 (F := Ideal) X F (ix3 h r j) = if j.val < r.val + 1 then ex (sc X F h r j.val - m) else 0 := by
  obtain ⟨m, hm⟩ := max_at hf h r
  refine ⟨m, fun j => ?_⟩
  have hs := score_at hf h r j
  have e : val_main_v29 (F := Ideal) X F (ix3 h r j) = (m : EReal) := by
    rw [val_main_v29_apply, val_main_v28_apply, ← hm]
    exact congrArg (val_main_v27 (F := Ideal) X F) (eq_ix2 _)
  rw [val_main_v31_apply, val_main_v30_apply, hs, e]
  show Ideal.exp (_ - _) = _
  by_cases hle : j.val ≤ r.val
  · rw [if_pos hle, if_pos (Nat.lt_succ_of_le hle), exp_sub]
  · rw [if_neg hle, if_neg (fun hl => hle (Nat.le_of_lt_succ hl)), exp_bot_sub]

/-- The probabilities: the softmax weights of the visible columns. -/
theorem prob_at (h : Fin 8) (r j : Fin 16384) : val_main_v35 (F := Ideal) X F (ix3 h r j)
    = if j.val < r.val + 1 then ((weight (sc X F h r) (r.val + 1) j.val : ℝ) : EReal) else 0 := by
  obtain ⟨m, hm⟩ := exp_at hf h r
  have e : val_main_v34 (F := Ideal) X F (ix3 h r j) = wsum (sc X F h r) (fun _ => 1) m (r.val + 1) := by
    rw [val_main_v34_apply, val_main_v33_apply, val_main_v32_apply, val_main_cst_2_apply]
    have hz := wsum_tile (sc X F h r) (fun _ => 1) m 0 16384 (r.val + 1) r.isLt
      (fun k : Fin 16384 => val_main_v31 (F := Ideal) X F (ix3 h r k)) (fun k => by rw [hm, Nat.zero_add, mul_one])
    rw [Nat.zero_add] at hz
    rw [← hz]
    refine congrArg₂ (· + ·) ?_ (sum_congr rfl fun k _ => congrArg (val_main_v31 (F := Ideal) X F) (eq_ix3 _))
    show Ideal.ofBits .f32 0x00000000#32 = _
    rw [Ideal.ofBits_zero_f32]
    rfl
  rw [val_main_v35_apply, hm, e]
  show Ideal.div _ _ = _
  split
  · exact div_ex _ _ _ _ (Nat.succ_pos _)
  · rw [wsum_one, Ideal.div_coe (sum_exp_pos _ _ _ (Nat.succ_pos _)).ne', zero_mul]

/-- The reference's result at a head, a row and a lane: the attention. -/
theorem ref_at (h : Fin 8) (r : Fin 16384) (d : Fin 64) : val_main_v43 (F := Ideal) X F (ix3 h r d) = out X F h r d := by
  show val_main_v42 (F := Ideal) X F (ix3 h r d) = _
  rw [val_main_v42_apply]
  have hw := sum_tail (fun j => ((weight (sc X F h r) (r.val + 1) j : ℝ) : EReal) * vals X h d j) (r.val + 1) r.isLt
  refine Eq.trans (sum_congr rfl fun k _ => ?_) hw
  have e1 : val_main_v41 (F := Ideal) X F (lidx_main_v42 (ix3 h r d) k) = val_main_v35 (F := Ideal) X F (ix3 h r k) := by
    rw [show lidx_main_v42 (ix3 h r d) k = ix3 h r k from eq_ix3 _, val_main_v41_apply, one_at]
    exact mul_one _
  have e2 : val_main_v9 (F := Ideal) X (ridx_main_v42 (ix3 h r d) k) = vals X h d k.val := by
    rw [show ridx_main_v42 (ix3 h r d) k = ix3 h k d from eq_ix3 _, v_at]
    unfold vals
    rw [dif_pos k.isLt]
  rw [e1, e2, prob_at hf]
  split
  · rfl
  · exact zero_mul _

end Cert.ReferenceIdeal.Fox
-- ==== Proof.Finite.lean ====
/-
  The precondition, read: where it holds, the queries, keys and decays are finite.
-/
module

public import proofs.«01_k».proof.Proof.Spec
public import proofs.«01_k».proof.Pre_finite_scores

@[expose] public section

noncomputable section

open Idealize.ShloMosaic Idealize.ShloMosaic.Pointwise

namespace Cert.Fox

/-- The side conditions the precondition's operations take. -/
theorem preFacts : Cert.Pre_finite_scores.Facts where
  slices_S16384x1536_S16384x1024_0_0 := by decide
  bitsLt_bf16_f32 := by decide
  bcast_S_S16384x1024 := by decide
  bcast_S_S16384x8 := by decide

theorem ofBits_pos_inf : Ideal.ofBits .f32 0x7F800000#32 = ⊤ := by simp [Ideal.ofBits, Ideal.ieee]

/-- An extended real whose absolute value is below `⊤` is finite. -/
theorem finite_of_abs (x : EReal) (h : Ideal.cmp .olt (max x (-x)) (Ideal.ofBits .f32 0x7F800000#32) = 1#1) : x ≠ ⊤ ∧ x ≠ ⊥ := by
  rw [ofBits_pos_inf] at h
  constructor
  · rintro rfl
    simp [Ideal.cmp] at h
  · rintro rfl
    simp [Ideal.cmp] at h

variable (X : SX.Idx → EReal) (F : SF.Idx → EReal)

attribute [local instance] preFacts in
/-- Where the precondition holds, the scores' operands are finite. -/
theorem finite_of_pre (h1 : (Cert.Pre_finite_scores.fn (F := Ideal) X F).1 = fun _ => 1#1)
    (h2 : (Cert.Pre_finite_scores.fn (F := Ideal) X F).2 = fun _ => 1#1) : Finite X F := by
  have hx : ∀ (j : Fin 16384) (l : Fin 1024), X (ix2 j ⟨l.val, by have := l.isLt; omega⟩) ≠ ⊤ ∧ X (ix2 j ⟨l.val, by have := l.isLt; omega⟩) ≠ ⊥ := by
    intro j l
    have h := congrFun h1 (ix2 j l)
    unfold Cert.Pre_finite_scores.fn at h
    pointwise at h
    exact finite_of_abs _ h
  have hd : ∀ (j : Fin 16384) (l : Fin 8), F (ix2 j l) ≠ ⊤ ∧ F (ix2 j l) ≠ ⊥ := by
    intro j l
    have h := congrFun h2 (ix2 j l)
    unfold Cert.Pre_finite_scores.fn at h
    exact finite_of_abs _ h
  refine ⟨fun h j d => hx j ⟨64 * h.val + d.val, by have := h.isLt; have := d.isLt; omega⟩,
    fun h j d => hx j ⟨512 + (64 * h.val + d.val), by have := h.isLt; have := d.isLt; omega⟩, fun h j => hd j h⟩

end Cert.Fox
-- ==== Proof.ProjAttn.lean ====
/-
  The projection onto the queries, keys and values of both attentions: every block of the kernel's result is a block of the
  product of the input with the joined weight columns, those of the queries scaled; the reference scales the product.
-/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.Kernel2Ideal.Proj

open Cert.Kernel2Ideal Cert.Kernel2Ideal.Gen

variable (m : (ℓ : Loc nD τ sig) → Buf (Elt Ideal) ℓ) (c : Dev nD)

/-- The input and the weights. -/
abbrev aU : S16384x2048.Idx → EReal := m ((c : Thread nD τ).loc main_arg0)
abbrev aW : S2048x6944.Idx → EReal := m ((c : Thread nD τ).loc main_arg1)

/-- The scale of the queries. -/
def scale : EReal := Ideal.ofBits .f32 0x3E000000#32

theorem scale_eq : scale = ((0.125 : ℝ) : EReal) := by
  unfold scale
  simp [Ideal.ofBits, Ideal.ieee]
  rw [← EReal.coe_mul]
  norm_num

/-- A sum of products scaled is the sum with the second factors scaled: the scale is real and not negative. -/
theorem sum_scale {K : ℕ} (u w : Fin K → EReal) : (∑ k, u k * w k) * scale = ∑ k, u k * (w k * scale) := by
  have h0 : 0 ≤ scale := by rw [scale_eq]; exact_mod_cast (by norm_num : (0 : ℝ) ≤ 0.125)
  have ht : scale ≠ ⊤ := by rw [scale_eq]; exact EReal.coe_ne_top _
  rw [Finset.sum_congr rfl fun k _ => (mul_assoc (u k) (w k) scale).symm]
  have h : ∀ s : Finset (Fin K), (∑ k ∈ s, u k * w k) * scale = ∑ k ∈ s, u k * w k * scale := by
    classical
    intro s
    induction s using Finset.induction_on with
    | empty => simp
    | insert a s ha ih => rw [Finset.sum_insert ha, Finset.sum_insert ha, EReal.right_distrib_of_nonneg_of_ne_top h0 ht, ih]
  exact h _

/-- The weight of joined column `n` in row `k`: the columns of the sparse attention's queries, scaled, its keys and values,
    then, past the gates' columns, the forgetting attention's queries, scaled, its keys and values. -/
def wt (W : S2048x6944.Idx → EReal) (k : Fin 2048) (n : Fin 2816) : EReal :=
  if n.val < 512 then W (ix2 k ⟨n.val, by have := n.isLt; omega⟩) * scale
  else if n.val < 1280 then W (ix2 k ⟨n.val, by have := n.isLt; omega⟩)
  else if n.val < 1792 then W (ix2 k ⟨24 + n.val, by have := n.isLt; omega⟩) * scale
  else W (ix2 k ⟨24 + n.val, by have := n.isLt; omega⟩)

/-- The product at row `r` and joined column `n`. -/
def at' (U : S16384x2048.Idx → EReal) (W : S2048x6944.Idx → EReal) (r : Fin 16384) (n : Fin 2816) : EReal :=
  ∑ k : Fin 2048, U (ix2 r k) * wt W k n

/-- The weights that the call reads. -/
theorem V_w (k : Fin 2048) (n : Fin 2816) : (V m c main_v9 : Vec Ideal S2048x2816 .bf16) (ix2 k n) = wt (aW m c) k n := by
  unfold V
  after_results
  pointwise
  unfold wt
  by_cases h1 : n.val < 512
  · refine (dif_pos h1).trans (Eq.trans ?_ (if_pos h1).symm)
    after_results_simp
    pointwise
    rfl
  refine (dif_neg h1).trans (Eq.trans ?_ (if_neg h1).symm)
  by_cases h2 : n.val < 1280
  · refine (dif_pos (by omega)).trans (Eq.trans ?_ (if_pos h2).symm)
    after_results_simp
    pointwise
    exact congrArg (aW m c) (congrArg (ix2 k) (Fin.ext (by simp only []; omega)))
  refine (dif_neg (by omega)).trans (Eq.trans ?_ (if_neg h2).symm)
  by_cases h3 : n.val < 1792
  · refine (dif_pos (by omega)).trans (Eq.trans ?_ (if_pos h3).symm)
    after_results_simp
    pointwise
    exact congrArg (· * scale) (congrArg (aW m c) (congrArg (ix2 k) (Fin.ext (by simp only []; omega))))
  refine (dif_neg (by omega)).trans (Eq.trans ?_ (if_neg h3).symm)
  after_results_simp
  pointwise
  exact congrArg (aW m c) (congrArg (ix2 k) (Fin.ext (by simp only []; omega)))

theorem V_u : (V m c main_arg0 : Vec Ideal S16384x2048 .bf16) = aU m c := V_main_arg0 m c

/-- One block's product. -/
theorem pay_at (a : Vec Ideal S512x2048 .bf16) (w : Vec Ideal S2048x1408 .bf16) (r : Fin 512) (n : Fin 1408) :
    k0_pay1 (F := Ideal) a w (ix2 r n) = ∑ k : Fin 2048, a (ix2 r k) * w (ix2 k n) := by
  unfold k0_pay1
  pointwise

theorem idx0 : ∀ t : Fin cfg0.N, win0_0.index t = ![(grid0.coords t 1).val, 0] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![(grid0.coords t 1).val, (grid0.coords t 0).val] := (by decide +kernel : ∀ t : Fin grid0.N, _)

variable (t : Fin cfg0.N)

/-- The row and the column of the array at which a point's block has its row `r` and its column `n`. -/
def row (r : Fin 512) : Fin 16384 := ⟨512 * (grid0.coords t 1).val + r.val, by have : (grid0.coords t 1).val < 32 := (grid0.coords t 1).isLt; have := r.isLt; omega⟩
def col (n : Fin 1408) : Fin 2816 := ⟨1408 * (grid0.coords t 0).val + n.val, by have : (grid0.coords t 0).val < 2 := (grid0.coords t 0).isLt; have := n.isLt; omega⟩

theorem blk_u (r : Fin 512) (k : Fin 2048) : (iblk m c 0 t : Vec Ideal S512x2048 .bf16) (ix2 r k) = aU m c (ix2 (row t r) k) := by
  rw [← V_u]
  blk_simp [iblk, idx0]
  refine congrArg (V m c main_arg0) ?_
  blk_ext [idx0, row]

theorem blk_w (k : Fin 2048) (n : Fin 1408) : (iblk m c 1 t : Vec Ideal S2048x1408 .bf16) (ix2 k n)
    = (V m c main_v9 : Vec Ideal S2048x2816 .bf16) (ix2 k (col t n)) := by
  blk_simp [iblk, idx1]
  refine congrArg (V m c main_v9) ?_
  blk_ext [idx1, col]

/-- The result: the product, index by index. -/
def result : S16384x2816.Idx → EReal := fun i => at' (aU m c) (aW m c) (i 0) (i 1)

/-- What a point writes at its row `r` and its column `n`. -/
theorem point (r : Fin 512) (n : Fin 1408) :
    k0_pay1 (F := Ideal) (iblk m c 0 t) (iblk m c 1 t) (ix2 r n) = at' (aU m c) (aW m c) (row t r) (col t n) := by
  refine (pay_at _ _ r n).trans (Finset.sum_congr rfl fun k _ => ?_)
  exact congrArg₂ (· * ·) (blk_u m c t r k) ((blk_w m c t k n).trans (V_w m c k _))

theorem emb_o (r : Fin 512) (n : Fin 1408) : ((win0_2.blk t).view.emb (ix2 r n : S512x1408.Idx) : S16384x2816.Idx) = ix2 (row t r) (col t n) := by
  blk_ext [idx2, row, col]

/-- The kernel's result array ends holding the product. -/
theorem final : (dats m 0 c).arrAt 2 cfg0.N = result m c := by
  refine (dats m 0 c).arrAt_eq_of_covers 2 _ (by decide +kernel) fun t _ y => ?_
  blk_simp
  rw [after0_2]
  frame_out
  obtain ⟨r, n, rfl⟩ : ∃ (r : Fin 512) (n : Fin 1408), y = ix2 r n := ⟨y 0, y 1, eq_ix2 y⟩
  exact (point m c t r n).trans (congrArg (result m c) (emb_o t r n)).symm

end Cert.Kernel2Ideal.Proj

namespace Cert.Reference2Ideal.Proj

open Cert.Reference2Ideal Cert.Reference2Ideal.Gen Cert.Reference2Ideal.Read

theorem ref_at (U : S16384x2048.Idx → EReal) (W : S2048x6944.Idx → EReal) (r : Fin 16384) (n : Fin 2816) :
    val_main_v16 (F := Ideal) U W (ix2 r n) = Kernel2Ideal.Proj.at' U W r n := by
  unfold val_main_v16 val_main_v15 val_main_v14 val_main_v13 val_main_v12 val_main_v11 val_main_v10 val_main_v9 val_main_v8 val_main_v5 val_main_v3 val_main_v2
  have h := val_main_v1_apply U W
  generalize val_main_v1 (F := Ideal) U W = a at h ⊢
  pointwise
  have hr : ∀ (i : Fin 6944), a (ix2 r i) = ∑ k : Fin 2048, U (ix2 r k) * W (ix2 k i) := fun i => (h _).trans
    (Finset.sum_congr rfl fun k _ => congrArg₂ (· * ·) (congrArg U (eq_ix2 _)) (congrArg W (eq_ix2 _)))
  unfold Kernel2Ideal.Proj.at' Kernel2Ideal.Proj.wt
  by_cases h1 : n.val < 512
  · simp only [dif_pos h1, if_pos h1, hr]
    exact Kernel2Ideal.Proj.sum_scale _ _
  simp only [dif_neg h1, if_neg h1]
  by_cases h2 : n.val < 1280
  · simp only [dif_pos (show n.val - 512 < 768 by omega), if_pos h2, hr]
    exact Finset.sum_congr rfl fun k _ => congrArg (U (ix2 r k) * ·) (congrArg W (congrArg (ix2 k) (Fin.ext (by simp only []; omega))))
  simp only [dif_neg (show ¬ n.val - 512 < 768 by omega), if_neg h2]
  by_cases h3 : n.val < 1792
  · simp only [dif_pos (show n.val - 512 - 768 < 512 by omega), if_pos h3, hr]
    refine (Kernel2Ideal.Proj.sum_scale _ _).trans ?_
    exact Finset.sum_congr rfl fun k _ => congrArg (U (ix2 r k) * ·) (congrArg (· * Kernel2Ideal.Proj.scale) (congrArg W (congrArg (ix2 k) (Fin.ext (by simp only []; omega)))))
  simp only [dif_neg (show ¬ n.val - 512 - 768 < 512 by omega), if_neg h3]
  by_cases h4 : n.val < 2304
  · simp only [dif_pos (show n.val - 512 - 768 - 512 < 512 by omega), hr]
    exact Finset.sum_congr rfl fun k _ => congrArg (U (ix2 r k) * ·) (congrArg W (congrArg (ix2 k) (Fin.ext (by simp only []; omega))))
  · simp only [dif_neg (show ¬ n.val - 512 - 768 - 512 < 512 by omega), hr]
    exact Finset.sum_congr rfl fun k _ => congrArg (U (ix2 r k) * ·) (congrArg W (congrArg (ix2 k) (Fin.ext (by simp only []; omega))))

end Cert.Reference2Ideal.Proj

end
-- ==== Proof.ProjSmall.lean ====
/-
  The projection onto the branch gates and the forget logits: every block of the kernel's result is a block of the product of
  the input with their joined weight columns, padded with columns of zeros; the reference pads the product.
-/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.Kernel3Ideal.Proj

open Cert.Kernel3Ideal Cert.Kernel3Ideal.Gen

variable (m : (ℓ : Loc nD τ sig) → Buf (Elt Ideal) ℓ) (c : Dev nD)

/-- The input and the weights. -/
abbrev aU : S16384x2048.Idx → EReal := m ((c : Thread nD τ).loc main_arg0)
abbrev aW : S2048x6944.Idx → EReal := m ((c : Thread nD τ).loc main_arg1)

/-- The weight of joined column `n` in row `k`: 24 columns of gates, 8 of forget logits, then zeros. -/
def wt (W : S2048x6944.Idx → EReal) (k : Fin 2048) (n : Fin 128) : EReal :=
  if n.val < 24 then W (ix2 k ⟨1280 + n.val, by have := n.isLt; omega⟩)
  else if n.val < 32 then W (ix2 k ⟨2816 + n.val, by have := n.isLt; omega⟩)
  else 0

/-- The product at row `r` and joined column `n`. -/
def at' (U : S16384x2048.Idx → EReal) (W : S2048x6944.Idx → EReal) (r : Fin 16384) (n : Fin 128) : EReal :=
  ∑ k : Fin 2048, U (ix2 r k) * wt W k n

/-- The weights that the call reads. -/
theorem V_w (k : Fin 2048) (n : Fin 128) : (V m c main_v4 : Vec Ideal S2048x128 .bf16) (ix2 k n) = wt (aW m c) k n := by
  unfold V
  after_results
  pointwise
  unfold wt
  by_cases h1 : n.val < 24
  · refine (dif_pos h1).trans (Eq.trans ?_ (if_pos h1).symm)
    after_results_simp
    pointwise
  refine (dif_neg h1).trans (Eq.trans ?_ (if_neg h1).symm)
  by_cases h2 : n.val < 32
  · refine (dif_pos (by omega)).trans (Eq.trans ?_ (if_pos h2).symm)
    after_results_simp
    pointwise
    exact congrArg (aW m c) (congrArg (ix2 k) (Fin.ext (by simp only []; omega)))
  refine (dif_neg (by omega)).trans (Eq.trans ?_ (if_neg h2).symm)
  after_results_simp
  pointwise

theorem V_u : (V m c main_arg0 : Vec Ideal S16384x2048 .bf16) = aU m c := V_main_arg0 m c

/-- One block's product. -/
theorem pay_at (a : Vec Ideal S512x2048 .bf16) (w : Vec Ideal S2048x128 .bf16) (r : Fin 512) (n : Fin 128) :
    k0_pay1 (F := Ideal) a w (ix2 r n) = ∑ k : Fin 2048, a (ix2 r k) * w (ix2 k n) := by
  unfold k0_pay1
  pointwise

theorem idx0 : ∀ t : Fin cfg0.N, win0_0.index t = ![(grid0.coords t 1).val, 0] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![(grid0.coords t 1).val, (grid0.coords t 0).val] := (by decide +kernel : ∀ t : Fin grid0.N, _)

variable (t : Fin cfg0.N)

/-- The row and the column of the array at which a point's block has its row `r` and its column `n`. -/
def row (r : Fin 512) : Fin 16384 := ⟨512 * (grid0.coords t 1).val + r.val, by have : (grid0.coords t 1).val < 32 := (grid0.coords t 1).isLt; have := r.isLt; omega⟩
def col (n : Fin 128) : Fin 128 := ⟨128 * (grid0.coords t 0).val + n.val, by have : (grid0.coords t 0).val < 1 := (grid0.coords t 0).isLt; have := n.isLt; omega⟩

theorem blk_u (r : Fin 512) (k : Fin 2048) : (iblk m c 0 t : Vec Ideal S512x2048 .bf16) (ix2 r k) = aU m c (ix2 (row t r) k) := by
  rw [← V_u]
  blk_simp [iblk, idx0]
  refine congrArg (V m c main_arg0) ?_
  blk_ext [idx0, row]

theorem blk_w (k : Fin 2048) (n : Fin 128) : (iblk m c 1 t : Vec Ideal S2048x128 .bf16) (ix2 k n)
    = (V m c main_v4 : Vec Ideal S2048x128 .bf16) (ix2 k (col t n)) := by
  blk_simp [iblk, idx1]
  refine congrArg (V m c main_v4) ?_
  blk_ext [idx1, col]

/-- The result: the product, index by index. -/
def result : S16384x128.Idx → EReal := fun i => at' (aU m c) (aW m c) (i 0) (i 1)

/-- What a point writes at its row `r` and its column `n`. -/
theorem point (r : Fin 512) (n : Fin 128) :
    k0_pay1 (F := Ideal) (iblk m c 0 t) (iblk m c 1 t) (ix2 r n) = at' (aU m c) (aW m c) (row t r) (col t n) := by
  refine (pay_at _ _ r n).trans (Finset.sum_congr rfl fun k _ => ?_)
  exact congrArg₂ (· * ·) (blk_u m c t r k) ((blk_w m c t k n).trans (V_w m c k _))

theorem emb_o (r : Fin 512) (n : Fin 128) : ((win0_2.blk t).view.emb (ix2 r n : S512x128.Idx) : S16384x128.Idx) = ix2 (row t r) (col t n) := by
  blk_ext [idx2, row, col]

/-- The kernel's result array ends holding the product. -/
theorem final : (dats m 0 c).arrAt 2 cfg0.N = result m c := by
  refine (dats m 0 c).arrAt_eq_of_covers 2 _ (by decide +kernel) fun t _ y => ?_
  blk_simp
  rw [after0_2]
  frame_out
  obtain ⟨r, n, rfl⟩ : ∃ (r : Fin 512) (n : Fin 128), y = ix2 r n := ⟨y 0, y 1, eq_ix2 y⟩
  exact (point m c t r n).trans (congrArg (result m c) (emb_o t r n)).symm

end Cert.Kernel3Ideal.Proj

namespace Cert.Reference3Ideal.Proj

open Cert.Reference3Ideal Cert.Reference3Ideal.Gen Cert.Reference3Ideal.Read

theorem ref_at (U : S16384x2048.Idx → EReal) (W : S2048x6944.Idx → EReal) (r : Fin 16384) (n : Fin 128) :
    val_main_v9 (F := Ideal) U W (ix2 r n) = Kernel3Ideal.Proj.at' U W r n := by
  unfold val_main_v9 val_main_v8 val_main_v6 val_main_v4
  have h := val_main_v1_apply U W
  generalize val_main_v1 (F := Ideal) U W = a at h ⊢
  pointwise
  have hr : ∀ (i : Fin 6944), a (ix2 r i) = ∑ k : Fin 2048, U (ix2 r k) * W (ix2 k i) := fun i => (h _).trans
    (Finset.sum_congr rfl fun k _ => congrArg₂ (· * ·) (congrArg U (eq_ix2 _)) (congrArg W (eq_ix2 _)))
  unfold Kernel3Ideal.Proj.at' Kernel3Ideal.Proj.wt
  by_cases h1 : n.val < 24
  · simp only [dif_pos (show n.val < 32 by omega), dif_pos h1, if_pos h1, hr]
  simp only [dif_neg h1, if_neg h1]
  by_cases h2 : n.val < 32
  · simp only [dif_pos h2, if_pos h2, hr]
    exact Finset.sum_congr rfl fun k _ => congrArg (U (ix2 r k) * ·) (congrArg W (congrArg (ix2 k) (Fin.ext (by simp only []; omega))))
  simp only [dif_neg h2, if_neg h2, mul_zero, Finset.sum_const_zero]
  exact (val_main_call0_v0_apply _).trans (by simp [val_main_c_apply, FloatOps.sitofp])

end Cert.Reference3Ideal.Proj

end
-- ==== Proof.ProjMerge.lean ====
/-
  The projection onto the merge gates: every block of the kernel's result is a block of the product of the input with the
  weights' last columns, and so is the reference's slice of the whole product.
-/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.Kernel4Ideal.Proj

open Cert.Kernel4Ideal Cert.Kernel4Ideal.Gen

variable (m : (ℓ : Loc nD τ sig) → Buf (Elt Ideal) ℓ) (c : Dev nD)

/-- The input and the weights. -/
abbrev aU : S16384x2048.Idx → EReal := m ((c : Thread nD τ).loc main_arg0)
abbrev aW : S2048x6944.Idx → EReal := m ((c : Thread nD τ).loc main_arg1)

/-- The product at row `r` and merge column `n`. -/
def at' (U : S16384x2048.Idx → EReal) (W : S2048x6944.Idx → EReal) (r : Fin 16384) (n : Fin 4096) : EReal :=
  ∑ k : Fin 2048, U (ix2 r k) * W (ix2 k ⟨2848 + n.val, by have := n.isLt; omega⟩)

/-- The weights that the call reads: the last columns. -/
theorem V_w (k : Fin 2048) (n : Fin 4096) : (V m c main_v1 : Vec Ideal S2048x4096 .bf16) (ix2 k n)
    = aW m c (ix2 k ⟨2848 + n.val, by have := n.isLt; omega⟩) := by
  unfold V
  after_results
  pointwise

theorem V_u : (V m c main_arg0 : Vec Ideal S16384x2048 .bf16) = aU m c := V_main_arg0 m c

/-- One block's product. -/
theorem pay_at (a : Vec Ideal S512x2048 .bf16) (w : Vec Ideal S2048x1024 .bf16) (r : Fin 512) (n : Fin 1024) :
    k0_pay1 (F := Ideal) a w (ix2 r n) = ∑ k : Fin 2048, a (ix2 r k) * w (ix2 k n) := by
  unfold k0_pay1
  pointwise

theorem idx0 : ∀ t : Fin cfg0.N, win0_0.index t = ![(grid0.coords t 1).val, 0] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![(grid0.coords t 1).val, (grid0.coords t 0).val] := (by decide +kernel : ∀ t : Fin grid0.N, _)

variable (t : Fin cfg0.N)

/-- The row and the column of the array at which a point's block has its row `r` and its column `n`. -/
def row (r : Fin 512) : Fin 16384 := ⟨512 * (grid0.coords t 1).val + r.val, by have : (grid0.coords t 1).val < 32 := (grid0.coords t 1).isLt; have := r.isLt; omega⟩
def col (n : Fin 1024) : Fin 4096 := ⟨1024 * (grid0.coords t 0).val + n.val, by have : (grid0.coords t 0).val < 4 := (grid0.coords t 0).isLt; have := n.isLt; omega⟩

theorem blk_u (r : Fin 512) (k : Fin 2048) : (iblk m c 0 t : Vec Ideal S512x2048 .bf16) (ix2 r k) = aU m c (ix2 (row t r) k) := by
  rw [← V_u]
  blk_simp [iblk, idx0]
  refine congrArg (V m c main_arg0) ?_
  blk_ext [idx0, row]

theorem blk_w (k : Fin 2048) (n : Fin 1024) : (iblk m c 1 t : Vec Ideal S2048x1024 .bf16) (ix2 k n)
    = (V m c main_v1 : Vec Ideal S2048x4096 .bf16) (ix2 k (col t n)) := by
  blk_simp [iblk, idx1]
  refine congrArg (V m c main_v1) ?_
  blk_ext [idx1, col]

/-- The result: the product, index by index. -/
def result : S16384x4096.Idx → EReal := fun i => at' (aU m c) (aW m c) (i 0) (i 1)

/-- What a point writes at its row `r` and its column `n`. -/
theorem point (r : Fin 512) (n : Fin 1024) :
    k0_pay1 (F := Ideal) (iblk m c 0 t) (iblk m c 1 t) (ix2 r n) = at' (aU m c) (aW m c) (row t r) (col t n) := by
  refine (pay_at _ _ r n).trans (Finset.sum_congr rfl fun k _ => ?_)
  exact congrArg₂ (· * ·) (blk_u m c t r k) ((blk_w m c t k n).trans (V_w m c k _))

theorem emb_o (r : Fin 512) (n : Fin 1024) : ((win0_2.blk t).view.emb (ix2 r n : S512x1024.Idx) : S16384x4096.Idx) = ix2 (row t r) (col t n) := by
  blk_ext [idx2, row, col]

/-- The kernel's result array ends holding the product. -/
theorem final : (dats m 0 c).arrAt 2 cfg0.N = result m c := by
  refine (dats m 0 c).arrAt_eq_of_covers 2 _ (by decide +kernel) fun t _ y => ?_
  blk_simp
  rw [after0_2]
  frame_out
  obtain ⟨r, n, rfl⟩ : ∃ (r : Fin 512) (n : Fin 1024), y = ix2 r n := ⟨y 0, y 1, eq_ix2 y⟩
  exact (point m c t r n).trans (congrArg (result m c) (emb_o t r n)).symm

end Cert.Kernel4Ideal.Proj

namespace Cert.Reference4Ideal.Proj

open Cert.Reference4Ideal Cert.Reference4Ideal.Gen Cert.Reference4Ideal.Read

/-- The reference's result is the product. -/
theorem ref_at (U : S16384x2048.Idx → EReal) (W : S2048x6944.Idx → EReal) (r : Fin 16384) (n : Fin 4096) :
    val_main_v8 (F := Ideal) U W (ix2 r n) = Kernel4Ideal.Proj.at' U W r n := by
  show val_main_v7 (F := Ideal) U W (ix2 r n) = _
  rw [val_main_v7_apply, val_main_v1_apply]
  exact Finset.sum_congr rfl fun k _ => congrArg₂ (· * ·) (congrArg U (eq_ix2 _)) (congrArg W (eq_ix2 _))

end Cert.Reference4Ideal.Proj

end
-- ==== Proof.MergeNorm.lean ====
/-
  The merge of the two attentions, its projection and the layer norm: every block of the kernel's result is a block of rows of
  the layer norm of the merged rows, and the reference's rows are the same.
-/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.Kernel5Ideal.Merge

open Cert.Kernel5Ideal Cert.Kernel5Ideal.Gen

/-- The logistic function of a merge gate. -/
def gate (x : EReal) : EReal := Ideal.div 1 (1 + Ideal.exp (-x))

/-- One row of the two gated branches' sum, at column `n`: `a` and `b` the branches' rows, `g` the merge gates' row. -/
def mixed (a b : Fin 512 → EReal) (g : Fin 4096 → EReal) (wn wf : Fin 512 → Fin 2048 → EReal) (n : Fin 2048) : EReal :=
  gate (g ⟨n.val, by have := n.isLt; omega⟩) * ∑ j : Fin 512, a j * wn j n
    + gate (g ⟨2048 + n.val, by have := n.isLt; omega⟩) * ∑ j : Fin 512, b j * wf j n

/-- One row of the residual sum: the scaled input's row `x` and the projection of the merged row `u`. -/
def resid (u x : Fin 2048 → EReal) (wo : Fin 2048 → Fin 2048 → EReal) (g1 : Fin 2048 → EReal) (n : Fin 2048) : EReal :=
  Ideal.ofBits .f32 0x3F9837F0#32 * x n + (1 + g1 n) * ∑ k : Fin 2048, u k * wo k n

/-- A row's mean. -/
def mean (z : Fin 2048 → EReal) : EReal := Ideal.div (∑ k : Fin 2048, z k) (Ideal.ofBits .f32 0x45000000#32)

/-- The layer norm of a row. -/
def norm (z lg lb : Fin 2048 → EReal) (n : Fin 2048) : EReal :=
  (z n - mean z) * Ideal.rsqrt (mean (fun k => (z k - mean z) * (z k - mean z)) + Ideal.ofBits .f32 0x3727C5AC#32) * lg n + lb n

/-- The call's result at row `r` and column `n`, from its ten arguments. -/
def at' (A B : S16384x512.Idx → EReal) (G : S16384x4096.Idx → EReal) (X : S16384x2048.Idx → EReal)
    (Wn Wf : S512x2048.Idx → EReal) (Wo : S2048x2048.Idx → EReal) (g1 : S1x2048.Idx → EReal) (lg lb : S2048.Idx → EReal)
    (r : Fin 16384) (n : Fin 2048) : EReal :=
  norm (resid (mixed (fun j => A (ix2 r j)) (fun j => B (ix2 r j)) (fun j => G (ix2 r j)) (fun j k => Wn (ix2 j k)) (fun j k => Wf (ix2 j k)))
      (fun k => X (ix2 r k)) (fun j k => Wo (ix2 j k)) (fun k => g1 (ix2 0 k)))
    (fun k => lg (ix1 k)) (fun k => lb (ix1 k)) n

/-- The layer norm's payload, row by row. -/
theorem pay1_at (z : FVec Ideal S256x2048 .f32) (lg lb : Vec Ideal S1x2048 .f32) (r : Fin 256) (n : Fin 2048) :
    k0_pay1 (F := Ideal) z lg lb (ix2 r n) = norm (fun k => z (ix2 r k)) (fun k => lg (ix2 0 k)) (fun k => lb (ix2 0 k)) n := by
  unfold k0_pay1
  pointwise
  rfl

/-- The residual sum's payload, row by row. -/
theorem pay2_at (a : Vec Ideal S256x512 .bf16) (wn : Vec Ideal S512x2048 .bf16) (b : Vec Ideal S256x512 .bf16) (wf : Vec Ideal S512x2048 .bf16)
    (g : Vec Ideal S256x4096 .bf16) (wo : Vec Ideal S2048x2048 .bf16) (x : Vec Ideal S256x2048 .f32) (g1 : Vec Ideal S1x2048 .f32)
    (r : Fin 256) (n : Fin 2048) :
    k0_pay2 (F := Ideal) a wn b wf g wo x g1 (ix2 r n)
      = resid (mixed (fun j => a (ix2 r j)) (fun j => b (ix2 r j)) (fun j => g (ix2 r j)) (fun j k => wn (ix2 j k)) (fun j k => wf (ix2 j k)))
          (fun k => x (ix2 r k)) (fun j k => wo (ix2 j k)) (fun k => g1 (ix2 0 k)) n := by
  unfold k0_pay2
  pointwise
  simp only [resid, mixed, gate, zero_sub]

variable (m : (ℓ : Loc nD τ sig) → Buf (Elt Ideal) ℓ) (c : Dev nD)

/-- The arguments. -/
abbrev aA : S16384x512.Idx → EReal := m ((c : Thread nD τ).loc main_arg0)
abbrev aB : S16384x512.Idx → EReal := m ((c : Thread nD τ).loc main_arg1)
abbrev aG : S16384x4096.Idx → EReal := m ((c : Thread nD τ).loc main_arg2)
abbrev aX : S16384x2048.Idx → EReal := m ((c : Thread nD τ).loc main_arg3)
abbrev aWn : S512x2048.Idx → EReal := m ((c : Thread nD τ).loc main_arg4)
abbrev aWf : S512x2048.Idx → EReal := m ((c : Thread nD τ).loc main_arg5)
abbrev aWo : S2048x2048.Idx → EReal := m ((c : Thread nD τ).loc main_arg6)
abbrev aG1 : S1x2048.Idx → EReal := m ((c : Thread nD τ).loc main_arg7)
abbrev aLg : S2048.Idx → EReal := m ((c : Thread nD τ).loc main_arg8)
abbrev aLb : S2048.Idx → EReal := m ((c : Thread nD τ).loc main_arg9)

/-- The arrays that the call reads: four arguments as they are, the weights, and the norm's two vectors as rows. -/
theorem V_wn (j : Fin 512) (k : Fin 2048) : (V m c main_v0 : Vec Ideal S512x2048 .bf16) (ix2 j k) = aWn m c (ix2 j k) := by
  unfold V
  after_results
  pointwise

theorem V_wf (j : Fin 512) (k : Fin 2048) : (V m c main_v1 : Vec Ideal S512x2048 .bf16) (ix2 j k) = aWf m c (ix2 j k) := by
  unfold V
  after_results
  pointwise

theorem V_wo (j k : Fin 2048) : (V m c main_v2 : Vec Ideal S2048x2048 .bf16) (ix2 j k) = aWo m c (ix2 j k) := by
  unfold V
  after_results
  pointwise

theorem V_lg (k : Fin 2048) : (V m c main_v3 : Vec Ideal S1x2048 .f32) (ix2 0 k) = aLg m c (ix1 k) := by
  unfold V
  after_results
  pointwise

theorem V_lb (k : Fin 2048) : (V m c main_v4 : Vec Ideal S1x2048 .f32) (ix2 0 k) = aLb m c (ix1 k) := by
  unfold V
  after_results
  pointwise

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx10 : ∀ t : Fin cfg0.N, win0_10.index t = ![(grid0.coords t 0).val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

variable (t : Fin cfg0.N)

/-- The row of the array at which a point's block has its row `r`. -/
def row (r : Fin 256) : Fin 16384 := ⟨256 * (grid0.coords t 0).val + r.val, by have : (grid0.coords t 0).val < 64 := (grid0.coords t 0).isLt; have := r.isLt; omega⟩

theorem blk_a (r : Fin 256) (j : Fin 512) : (iblk m c 0 t : Vec Ideal S256x512 .bf16) (ix2 r j) = aA m c (ix2 (row t r) j) := by
  rw [← show (V m c main_arg0 : Vec Ideal S16384x512 .bf16) = aA m c from V_main_arg0 m c]
  blk_simp [iblk, idx0]
  refine congrArg (V m c main_arg0) ?_
  blk_ext [idx0, row]

theorem blk_b (r : Fin 256) (j : Fin 512) : (iblk m c 1 t : Vec Ideal S256x512 .bf16) (ix2 r j) = aB m c (ix2 (row t r) j) := by
  rw [← show (V m c main_arg1 : Vec Ideal S16384x512 .bf16) = aB m c from V_main_arg1 m c]
  blk_simp [iblk, idx1]
  refine congrArg (V m c main_arg1) ?_
  blk_ext [idx1, row]

theorem blk_g (r : Fin 256) (j : Fin 4096) : (iblk m c 2 t : Vec Ideal S256x4096 .bf16) (ix2 r j) = aG m c (ix2 (row t r) j) := by
  rw [← show (V m c main_arg2 : Vec Ideal S16384x4096 .bf16) = aG m c from V_main_arg2 m c]
  blk_simp [iblk, idx2]
  refine congrArg (V m c main_arg2) ?_
  blk_ext [idx2, row]

theorem blk_x (r : Fin 256) (j : Fin 2048) : (iblk m c 3 t : Vec Ideal S256x2048 .f32) (ix2 r j) = aX m c (ix2 (row t r) j) := by
  rw [← show (V m c main_arg3 : Vec Ideal S16384x2048 .f32) = aX m c from V_main_arg3 m c]
  blk_simp [iblk, idx3]
  refine congrArg (V m c main_arg3) ?_
  blk_ext [idx3, row]

theorem blk_wn (j : Fin 512) (k : Fin 2048) : (iblk m c 4 t : Vec Ideal S512x2048 .bf16) (ix2 j k) = aWn m c (ix2 j k) := by
  rw [← V_wn]
  blk_simp [iblk, idx4]
  refine congrArg (V m c main_v0) ?_
  blk_ext [idx4]

theorem blk_wf (j : Fin 512) (k : Fin 2048) : (iblk m c 5 t : Vec Ideal S512x2048 .bf16) (ix2 j k) = aWf m c (ix2 j k) := by
  rw [← V_wf]
  blk_simp [iblk, idx5]
  refine congrArg (V m c main_v1) ?_
  blk_ext [idx5]

theorem blk_wo (j : Fin 2048) (k : Fin 2048) : (iblk m c 6 t : Vec Ideal S2048x2048 .bf16) (ix2 j k) = aWo m c (ix2 j k) := by
  rw [← V_wo]
  blk_simp [iblk, idx6]
  refine congrArg (V m c main_v2) ?_
  blk_ext [idx6]

theorem blk_g1 (k : Fin 2048) : (iblk m c 7 t : Vec Ideal S1x2048 .f32) (ix2 0 k) = aG1 m c (ix2 0 k) := by
  rw [← show (V m c main_arg7 : Vec Ideal S1x2048 .f32) = aG1 m c from V_main_arg7 m c]
  blk_simp [iblk, idx7]
  refine congrArg (V m c main_arg7) ?_
  blk_ext [idx7]

theorem blk_lg (k : Fin 2048) : (iblk m c 8 t : Vec Ideal S1x2048 .f32) (ix2 0 k) = aLg m c (ix1 k) := by
  rw [← V_lg]
  blk_simp [iblk, idx8]
  refine congrArg (V m c main_v3) ?_
  blk_ext [idx8]

theorem blk_lb (k : Fin 2048) : (iblk m c 9 t : Vec Ideal S1x2048 .f32) (ix2 0 k) = aLb m c (ix1 k) := by
  rw [← V_lb]
  blk_simp [iblk, idx9]
  refine congrArg (V m c main_v4) ?_
  blk_ext [idx9]

/-- The result, index by index. -/
def result : S16384x2048.Idx → EReal := fun i =>
  at' (aA m c) (aB m c) (aG m c) (aX m c) (aWn m c) (aWf m c) (aWo m c) (aG1 m c) (aLg m c) (aLb m c) (i 0) (i 1)

/-- What a point writes at its row `r` and its column `n`. -/
theorem point (r : Fin 256) (n : Fin 2048) :
    k0_pay1 (F := Ideal) (k0_pay2 (iblk m c 0 t) (iblk m c 4 t) (iblk m c 1 t) (iblk m c 5 t) (iblk m c 2 t) (iblk m c 6 t) (iblk m c 3 t) (iblk m c 7 t))
        (iblk m c 8 t) (iblk m c 9 t) (ix2 r n)
      = result m c (ix2 (row t r) n) := by
  rw [pay1_at]
  simp only [pay2_at, blk_a m c t, blk_b m c t, blk_g m c t, blk_x m c t, blk_wn m c t, blk_wf m c t, blk_wo m c t, blk_g1 m c t, blk_lg m c t, blk_lb m c t]
  rfl

theorem emb_o (r : Fin 256) (n : Fin 2048) : ((win0_10.blk t).view.emb (ix2 r n : S256x2048.Idx) : S16384x2048.Idx) = ix2 (row t r) n := by
  blk_ext [idx10, row]

/-- The kernel's result array ends holding the layer norm of the merged rows. -/
theorem final : (dats m 0 c).arrAt 10 cfg0.N = result m c := by
  refine (dats m 0 c).arrAt_eq_of_covers 10 _ (by decide +kernel) fun t _ y => ?_
  blk_simp
  rw [after0_10]
  frame_out
  obtain ⟨r, n, rfl⟩ : ∃ (r : Fin 256) (n : Fin 2048), y = ix2 r n := ⟨y 0, y 1, eq_ix2 y⟩
  exact (point m c t r n).trans (congrArg (result m c) (emb_o t r n)).symm

end Cert.Kernel5Ideal.Merge

namespace Cert.Reference5Ideal.Merge

open Cert.Reference5Ideal Cert.Reference5Ideal.Gen Cert.Reference5Ideal.Read
open Cert.Kernel5Ideal.Merge (gate mixed resid mean norm at')

variable (A B : S16384x512.Idx → EReal) (G : S16384x4096.Idx → EReal) (X : S16384x2048.Idx → EReal)
  (Wn Wf : S512x2048.Idx → EReal) (Wo : S2048x2048.Idx → EReal) (g1 : S1x2048.Idx → EReal) (lg lb : S2048.Idx → EReal)

/-- The gates. -/
theorem gate_at (i : S16384x4096.Idx) : val_main_v6 (F := Ideal) G i = gate (G i) := by
  rw [val_main_v6_apply, val_main_v5_apply, val_main_v4_apply, val_main_v3_apply, val_main_v2_apply, val_main_v1_apply, val_main_v0_apply]
  show Ideal.div (Ideal.ofBits .f32 0x3F800000#32) (Ideal.ofBits .f32 0x3F800000#32 + Ideal.exp (-(G i))) = _
  rw [Ideal.ofBits_one_f32]
  rfl

/-- The merged rows. -/
theorem mixed_at (r : Fin 16384) (n : Fin 2048) : val_main_v15 (F := Ideal) A B G Wn Wf (ix2 r n)
    = mixed (fun j => A (ix2 r j)) (fun j => B (ix2 r j)) (fun j => G (ix2 r j)) (fun j k => Wn (ix2 j k)) (fun j k => Wf (ix2 j k)) n := by
  rw [val_main_v15_apply, val_main_v11_apply, val_main_v14_apply, val_main_v7_apply, val_main_v8_apply, val_main_v10_apply, val_main_v13_apply, gate_at, gate_at]
  refine congrArg₂ (· + ·) (congrArg₂ (· * ·) (congrArg (gate <| G ·) ?_) (Finset.sum_congr rfl fun k _ => ?_))
    (congrArg₂ (· * ·) (congrArg (gate <| G ·) ?_) (Finset.sum_congr rfl fun k _ => ?_))
  · exact (eq_ix2 _).trans (congrArg₂ ix2 (Fin.ext (by simp [idx_main_v7])) (Fin.ext (by simp [idx_main_v7])))
  · exact congrArg₂ (· * ·) (congrArg A (eq_ix2 _)) (congrArg Wn (eq_ix2 _))
  · exact (eq_ix2 _).trans (congrArg₂ ix2 (Fin.ext (by simp [idx_main_v8])) (Fin.ext (by simp [idx_main_v8])))
  · exact congrArg₂ (· * ·) (congrArg B (eq_ix2 _)) (congrArg Wf (eq_ix2 _))

/-- The residual sums. -/
theorem resid_at (r : Fin 16384) (n : Fin 2048) : val_main_v23 (F := Ideal) A B G X Wn Wf Wo g1 (ix2 r n)
    = resid (fun k => val_main_v15 (F := Ideal) A B G Wn Wf (ix2 r k)) (fun k => X (ix2 r k)) (fun j k => Wo (ix2 j k)) (fun k => g1 (ix2 0 k)) n := by
  rw [val_main_v23_apply, val_main_v18_apply, val_main_v22_apply, val_main_v17_apply, val_main_v21_apply, val_main_v20_apply, val_main_v19_apply, val_main_v16_apply]
  generalize val_main_v15 (F := Ideal) A B G Wn Wf = u
  refine congrArg₂ (· + ·) rfl (congrArg₂ (· * ·) (congrArg₂ (· + ·) Ideal.ofBits_one_f32 (congrArg g1 ((eq_ix2 _).trans (congrArg₂ ix2 (Subsingleton.elim _ _) rfl))))
    (Finset.sum_congr rfl fun k _ => ?_))
  exact congrArg₂ (· * ·) (congrArg u (eq_ix2 _)) (congrArg Wo (eq_ix2 _))

/-- The means of the residual sums and of the squared distances. -/
theorem mean_at (r : Fin 16384) : val_main_v27 (F := Ideal) A B G X Wn Wf Wo g1 (ix2 r 0)
    = mean fun k => val_main_v23 (F := Ideal) A B G X Wn Wf Wo g1 (ix2 r k) := by
  rw [val_main_v27_apply, val_main_v25_apply, val_main_v24_apply, val_main_v26_apply]
  generalize val_main_v23 (F := Ideal) A B G X Wn Wf Wo g1 = z
  refine congrArg₂ Ideal.div ((congrArg₂ (· + ·) Ideal.ofBits_zero_f32 (Finset.sum_congr rfl fun k _ => congrArg z (eq_ix2 _))).trans (zero_add _)) rfl

theorem var_at (r : Fin 16384) : val_main_v34 (F := Ideal) A B G X Wn Wf Wo g1 (ix2 r 0)
    = mean fun k => val_main_v30 (F := Ideal) A B G X Wn Wf Wo g1 (ix2 r k) := by
  rw [val_main_v34_apply, val_main_v32_apply, val_main_v31_apply, val_main_v33_apply]
  generalize val_main_v30 (F := Ideal) A B G X Wn Wf Wo g1 = z
  refine congrArg₂ Ideal.div ((congrArg₂ (· + ·) Ideal.ofBits_zero_f32 (Finset.sum_congr rfl fun k _ => congrArg z (eq_ix2 _))).trans (zero_add _)) rfl

/-- The squared distances from the mean. -/
theorem square_at (r : Fin 16384) (n : Fin 2048) : val_main_v30 (F := Ideal) A B G X Wn Wf Wo g1 (ix2 r n)
    = (val_main_v23 (F := Ideal) A B G X Wn Wf Wo g1 (ix2 r n) - mean fun k => val_main_v23 (F := Ideal) A B G X Wn Wf Wo g1 (ix2 r k))
      * (val_main_v23 (F := Ideal) A B G X Wn Wf Wo g1 (ix2 r n) - mean fun k => val_main_v23 (F := Ideal) A B G X Wn Wf Wo g1 (ix2 r k)) := by
  rw [val_main_v30_apply, val_main_v29_apply, val_main_v28_apply, show idx_main_v28 (ix2 r n) = ix2 r 0 from (eq_ix2 _).trans (congrArg₂ ix2 rfl (Subsingleton.elim _ _)), mean_at]
  rfl

/-- The reference's result is the layer norm of the merged rows. -/
theorem ref_at (r : Fin 16384) (n : Fin 2048) :
    val_main_v47 (F := Ideal) A B G X Wn Wf Wo g1 lg lb (ix2 r n) = at' A B G X Wn Wf Wo g1 lg lb r n := by
  have hz : (fun k => val_main_v23 (F := Ideal) A B G X Wn Wf Wo g1 (ix2 r k))
      = resid (mixed (fun j => A (ix2 r j)) (fun j => B (ix2 r j)) (fun j => G (ix2 r j)) (fun j k => Wn (ix2 j k)) (fun j k => Wf (ix2 j k)))
          (fun k => X (ix2 r k)) (fun j k => Wo (ix2 j k)) (fun k => g1 (ix2 0 k)) := by
    funext k
    rw [resid_at, funext fun k => mixed_at A B G Wn Wf r k]
  unfold at'
  rw [← hz, val_main_v47_apply, val_main_v44_apply, val_main_v41_apply, val_main_v46_apply, val_main_v45_apply, val_main_v43_apply, val_main_v42_apply,
    val_main_v36_apply, val_main_v35_apply, val_main_v40_apply, show idx_main_v35 (ix2 r n) = ix2 r 0 from (eq_ix2 _).trans (congrArg₂ ix2 rfl (Subsingleton.elim _ _)),
    show idx_main_v40 (ix2 r n) = ix2 r 0 from (eq_ix2 _).trans (congrArg₂ ix2 rfl (Subsingleton.elim _ _)), val_main_v39_apply, val_main_v38_apply, val_main_v37_apply,
    mean_at, var_at, funext fun k => square_at A B G X Wn Wf Wo g1 r k]
  generalize val_main_v23 (F := Ideal) A B G X Wn Wf Wo g1 = z
  exact congrArg₂ (· + ·) (congrArg₂ (· * ·) rfl (congrArg lg (eq_ix1 _))) (congrArg lb (eq_ix1 _))

end Cert.Reference5Ideal.Merge

end
-- ==== Proof.LastNorm.lean ====
/-
  The last layer norm: every block of the kernel's result is a block of rows of the layer norm of the scaled input plus the
  gated sum of the tokens' two rows, and the reference's rows are the same.
-/
module

public import proofs.«01_k».proof.Proof.Gen.Kernel6Ideal.Value
public import proofs.«01_k».proof.Proof.Gen.Reference6Ideal.Read
public import proofs.«01_k».proof.Proof.MergeNorm
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.Kernel6Ideal.Last

open Cert.Kernel6Ideal Cert.Kernel6Ideal.Gen
open Cert.Kernel5Ideal.Merge (mean norm)

/-- One row of the residual sum: the scaled input's row `x` and the sum of the rows `a` and `b`. -/
def resid (x a b g2 : Fin 2048 → EReal) (n : Fin 2048) : EReal :=
  Ideal.ofBits .f32 0x3F9837F0#32 * x n + (1 + g2 n) * (a n + b n)

/-- The two places of a token's rows. -/
def fst (r : Fin 16384) : Fin 32768 := ⟨r.val, by have := r.isLt; omega⟩
def snd (r : Fin 16384) : Fin 32768 := ⟨16384 + r.val, by have := r.isLt; omega⟩

/-- The call's result at row `r` and column `n`, from its five arguments. -/
def at' (X : S16384x2048.Idx → EReal) (Y : S32768x2048.Idx → EReal) (g2 : S1x2048.Idx → EReal) (lg lb : S2048.Idx → EReal)
    (r : Fin 16384) (n : Fin 2048) : EReal :=
  norm (resid (fun k => X (ix2 r k)) (fun k => Y (ix2 (fst r) k)) (fun k => Y (ix2 (snd r) k)) (fun k => g2 (ix2 0 k)))
    (fun k => lg (ix1 k)) (fun k => lb (ix1 k)) n

/-- The payload, row by row. -/
theorem pay_at (x : Vec Ideal S512x2048 .f32) (g2 : Vec Ideal S1x2048 .f32) (a b : Vec Ideal S512x2048 .f32) (lg lb : Vec Ideal S1x2048 .f32)
    (r : Fin 512) (n : Fin 2048) :
    k0_pay1 (F := Ideal) x g2 a b lg lb (ix2 r n)
      = norm (resid (fun k => x (ix2 r k)) (fun k => a (ix2 r k)) (fun k => b (ix2 r k)) (fun k => g2 (ix2 0 k)))
          (fun k => lg (ix2 0 k)) (fun k => lb (ix2 0 k)) n := by
  unfold k0_pay1
  pointwise
  rfl

variable (m : (ℓ : Loc nD τ sig) → Buf (Elt Ideal) ℓ) (c : Dev nD)

/-- The arguments. -/
abbrev aX : S16384x2048.Idx → EReal := m ((c : Thread nD τ).loc main_arg0)
abbrev aY : S32768x2048.Idx → EReal := m ((c : Thread nD τ).loc main_arg1)
abbrev aG2 : S1x2048.Idx → EReal := m ((c : Thread nD τ).loc main_arg2)
abbrev aLg : S2048.Idx → EReal := m ((c : Thread nD τ).loc main_arg3)
abbrev aLb : S2048.Idx → EReal := m ((c : Thread nD τ).loc main_arg4)

/-- The norm's two vectors as the rows that the call reads. -/
theorem V_lg (k : Fin 2048) : (V m c main_v0 : Vec Ideal S1x2048 .f32) (ix2 0 k) = aLg m c (ix1 k) := by
  unfold V
  after_results
  pointwise

theorem V_lb (k : Fin 2048) : (V m c main_v1 : Vec Ideal S1x2048 .f32) (ix2 0 k) = aLb m c (ix1 k) := by
  unfold V
  after_results
  pointwise

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val + 32, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(grid0.coords t 0).val, 0] := (by decide +kernel : ∀ t : Fin grid0.N, _)

variable (t : Fin cfg0.N)

/-- The row of the array at which a point's block has its row `r`. -/
def row (r : Fin 512) : Fin 16384 := ⟨512 * (grid0.coords t 0).val + r.val, by have : (grid0.coords t 0).val < 32 := (grid0.coords t 0).isLt; have := r.isLt; omega⟩

theorem blk_x (r : Fin 512) (j : Fin 2048) : (iblk m c 0 t : Vec Ideal S512x2048 .f32) (ix2 r j) = aX m c (ix2 (row t r) j) := by
  rw [← show (V m c main_arg0 : Vec Ideal S16384x2048 .f32) = aX m c from V_main_arg0 m c]
  blk_simp [iblk, idx0]
  refine congrArg (V m c main_arg0) ?_
  blk_ext [idx0, row]

theorem blk_a (r : Fin 512) (j : Fin 2048) : (iblk m c 1 t : Vec Ideal S512x2048 .f32) (ix2 r j) = aY m c (ix2 (fst (row t r)) j) := by
  rw [← show (V m c main_arg1 : Vec Ideal S32768x2048 .f32) = aY m c from V_main_arg1 m c]
  blk_simp [iblk, idx1]
  refine congrArg (V m c main_arg1) ?_
  blk_ext [idx1, row, fst]

theorem blk_b (r : Fin 512) (j : Fin 2048) : (iblk m c 2 t : Vec Ideal S512x2048 .f32) (ix2 r j) = aY m c (ix2 (snd (row t r)) j) := by
  rw [← show (V m c main_arg1 : Vec Ideal S32768x2048 .f32) = aY m c from V_main_arg1 m c]
  blk_simp [iblk, idx2]
  refine congrArg (V m c main_arg1) ?_
  blk_ext [idx2, row, snd]

theorem blk_g2 (k : Fin 2048) : (iblk m c 3 t : Vec Ideal S1x2048 .f32) (ix2 0 k) = aG2 m c (ix2 0 k) := by
  rw [← show (V m c main_arg2 : Vec Ideal S1x2048 .f32) = aG2 m c from V_main_arg2 m c]
  blk_simp [iblk, idx3]
  refine congrArg (V m c main_arg2) ?_
  blk_ext [idx3]

theorem blk_lg (k : Fin 2048) : (iblk m c 4 t : Vec Ideal S1x2048 .f32) (ix2 0 k) = aLg m c (ix1 k) := by
  rw [← V_lg]
  blk_simp [iblk, idx4]
  refine congrArg (V m c main_v0) ?_
  blk_ext [idx4]

theorem blk_lb (k : Fin 2048) : (iblk m c 5 t : Vec Ideal S1x2048 .f32) (ix2 0 k) = aLb m c (ix1 k) := by
  rw [← V_lb]
  blk_simp [iblk, idx5]
  refine congrArg (V m c main_v1) ?_
  blk_ext [idx5]

/-- The result, index by index. -/
def result : S16384x2048.Idx → EReal := fun i => at' (aX m c) (aY m c) (aG2 m c) (aLg m c) (aLb m c) (i 0) (i 1)

/-- What a point writes at its row `r` and its column `n`. -/
theorem point (r : Fin 512) (n : Fin 2048) :
    k0_pay1 (F := Ideal) (iblk m c 0 t) (iblk m c 3 t) (iblk m c 1 t) (iblk m c 2 t) (iblk m c 4 t) (iblk m c 5 t) (ix2 r n) = result m c (ix2 (row t r) n) := by
  rw [pay_at]
  simp only [blk_x m c t, blk_a m c t, blk_b m c t, blk_g2 m c t, blk_lg m c t, blk_lb m c t]
  rfl

theorem emb_o (r : Fin 512) (n : Fin 2048) : ((win0_6.blk t).view.emb (ix2 r n : S512x2048.Idx) : S16384x2048.Idx) = ix2 (row t r) n := by
  blk_ext [idx6, row]

/-- The kernel's result array ends holding the layer norm of the residual sums. -/
theorem final : (dats m 0 c).arrAt 6 cfg0.N = result m c := by
  refine (dats m 0 c).arrAt_eq_of_covers 6 _ (by decide +kernel) fun t _ y => ?_
  blk_simp
  rw [after0_6]
  frame_out
  obtain ⟨r, n, rfl⟩ : ∃ (r : Fin 512) (n : Fin 2048), y = ix2 r n := ⟨y 0, y 1, eq_ix2 y⟩
  exact (point m c t r n).trans (congrArg (result m c) (emb_o t r n)).symm

end Cert.Kernel6Ideal.Last

namespace Cert.Reference6Ideal.Last

open Cert.Reference6Ideal Cert.Reference6Ideal.Gen Cert.Reference6Ideal.Read
open Cert.Kernel5Ideal.Merge (mean norm)
open Cert.Kernel6Ideal.Last (resid fst snd at')

variable (X : S16384x2048.Idx → EReal) (Y : S32768x2048.Idx → EReal) (g2 : S1x2048.Idx → EReal) (lg lb : S2048.Idx → EReal)

/-- The sum of a token's two rows. -/
theorem pair_at (r : Fin 16384) (n : Fin 2048) : val_main_v1 (F := Ideal) Y (ix2 r n) = Y (ix2 (fst r) n) + Y (ix2 (snd r) n) := by
  rw [val_main_v1_apply, Fin.sum_univ_two, val_main_v0_apply, val_main_v0_apply]
  have hr := r.isLt
  have hn := n.isLt
  refine (congrArg₂ (· + ·) Ideal.ofBits_zero_f32 (congrArg₂ (· + ·) (congrArg Y ?_) (congrArg Y ?_))).trans (zero_add _)
  · exact (eq_ix2 _).trans (congrArg₂ ix2 (Fin.ext (show ((0 * 16384 + r.val) * 2048 + n.val) / 2048 = r.val by omega))
      (Fin.ext (show ((0 * 16384 + r.val) * 2048 + n.val) % 2048 = n.val by omega)))
  · exact (eq_ix2 _).trans (congrArg₂ ix2 (Fin.ext (show ((1 * 16384 + r.val) * 2048 + n.val) / 2048 = 16384 + r.val by omega))
      (Fin.ext (show ((1 * 16384 + r.val) * 2048 + n.val) % 2048 = n.val by omega)))

/-- The residual sums. -/
theorem resid_at (r : Fin 16384) (n : Fin 2048) : val_main_v8 (F := Ideal) X Y g2 (ix2 r n)
    = resid (fun k => X (ix2 r k)) (fun k => Y (ix2 (fst r) k)) (fun k => Y (ix2 (snd r) k)) (fun k => g2 (ix2 0 k)) n := by
  rw [val_main_v8_apply, val_main_v3_apply, val_main_v7_apply, val_main_v2_apply, val_main_v6_apply, val_main_v5_apply, val_main_v4_apply, pair_at]
  exact congrArg₂ (· + ·) rfl (congrArg₂ (· * ·) (congrArg₂ (· + ·) Ideal.ofBits_one_f32 (congrArg g2 ((eq_ix2 _).trans (congrArg₂ ix2 (Subsingleton.elim _ _) rfl)))) rfl)

/-- The means of the residual sums and of the squared distances. -/
theorem mean_at (r : Fin 16384) : val_main_v12 (F := Ideal) X Y g2 (ix2 r 0) = mean fun k => val_main_v8 (F := Ideal) X Y g2 (ix2 r k) := by
  rw [val_main_v12_apply, val_main_v10_apply, val_main_v9_apply, val_main_v11_apply]
  generalize val_main_v8 (F := Ideal) X Y g2 = z
  exact congrArg₂ Ideal.div ((congrArg₂ (· + ·) Ideal.ofBits_zero_f32 (Finset.sum_congr rfl fun k _ => congrArg z (eq_ix2 _))).trans (zero_add _)) rfl

theorem var_at (r : Fin 16384) : val_main_v19 (F := Ideal) X Y g2 (ix2 r 0) = mean fun k => val_main_v15 (F := Ideal) X Y g2 (ix2 r k) := by
  rw [val_main_v19_apply, val_main_v17_apply, val_main_v16_apply, val_main_v18_apply]
  generalize val_main_v15 (F := Ideal) X Y g2 = z
  exact congrArg₂ Ideal.div ((congrArg₂ (· + ·) Ideal.ofBits_zero_f32 (Finset.sum_congr rfl fun k _ => congrArg z (eq_ix2 _))).trans (zero_add _)) rfl

/-- The squared distances from the mean. -/
theorem square_at (r : Fin 16384) (n : Fin 2048) : val_main_v15 (F := Ideal) X Y g2 (ix2 r n)
    = (val_main_v8 (F := Ideal) X Y g2 (ix2 r n) - mean fun k => val_main_v8 (F := Ideal) X Y g2 (ix2 r k)) * (val_main_v8 (F := Ideal) X Y g2 (ix2 r n) - mean fun k => val_main_v8 (F := Ideal) X Y g2 (ix2 r k)) := by
  rw [val_main_v15_apply, val_main_v14_apply, val_main_v13_apply, show idx_main_v13 (ix2 r n) = ix2 r 0 from (eq_ix2 _).trans (congrArg₂ ix2 rfl (Subsingleton.elim _ _)), mean_at]
  rfl

/-- The reference's result is the layer norm of the residual sums. -/
theorem ref_at (r : Fin 16384) (n : Fin 2048) : val_main_v32 (F := Ideal) X Y g2 lg lb (ix2 r n) = at' X Y g2 lg lb r n := by
  unfold at'
  rw [← show (fun k => val_main_v8 (F := Ideal) X Y g2 (ix2 r k)) = _ from funext fun k => resid_at X Y g2 r k, val_main_v32_apply, val_main_v29_apply, val_main_v26_apply, val_main_v31_apply,
    val_main_v30_apply, val_main_v28_apply, val_main_v27_apply, val_main_v21_apply, val_main_v20_apply, val_main_v25_apply,
    show idx_main_v20 (ix2 r n) = ix2 r 0 from (eq_ix2 _).trans (congrArg₂ ix2 rfl (Subsingleton.elim _ _)),
    show idx_main_v25 (ix2 r n) = ix2 r 0 from (eq_ix2 _).trans (congrArg₂ ix2 rfl (Subsingleton.elim _ _)), val_main_v24_apply, val_main_v23_apply, val_main_v22_apply,
    mean_at, var_at, funext fun k => square_at X Y g2 r k]
  generalize val_main_v8 (F := Ideal) X Y g2 = z
  exact congrArg₂ (· + ·) (congrArg₂ (· * ·) rfl (congrArg lg (eq_ix1 _))) (congrArg lb (eq_ix1 _))

end Cert.Reference6Ideal.Last

end
-- ==== Proof.ModNorm.lean ====
/-
  The modulated layer norm: every block of the kernel's result is a block of rows of the normalized input, scaled and
  shifted column by column, and the reference's rows are the same.
-/
module

public import proofs.«01_k».proof.Proof.Gen.Kernel7Ideal.Value
public import proofs.«01_k».proof.Proof.Gen.Reference7Ideal.Read
public import proofs.«01_k».proof.Proof.MergeNorm
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.Kernel7Ideal.Mod

open Cert.Kernel7Ideal Cert.Kernel7Ideal.Gen
open Cert.Kernel5Ideal.Merge (mean norm)

/-- The call's result at row `r` and column `n`: the layer norm of the row with one plus the scale and the shift. -/
def at' (X : S16384x2048.Idx → EReal) (sc sh : S1x2048.Idx → EReal) (r : Fin 16384) (n : Fin 2048) : EReal :=
  norm (fun k => X (ix2 r k)) (fun k => 1 + sc (ix2 0 k)) (fun k => sh (ix2 0 k)) n

/-- The payload, row by row. -/
theorem pay_at (x : Vec Ideal S512x2048 .f32) (sc sh : Vec Ideal S1x2048 .f32) (r : Fin 512) (n : Fin 2048) :
    k0_pay1 (F := Ideal) x sc sh (ix2 r n) = norm (fun k => x (ix2 r k)) (fun k => 1 + sc (ix2 0 k)) (fun k => sh (ix2 0 k)) n := by
  unfold k0_pay1
  pointwise
  rfl

variable (m : (ℓ : Loc nD τ sig) → Buf (Elt Ideal) ℓ) (c : Dev nD)

/-- The arguments. -/
abbrev aX : S16384x2048.Idx → EReal := m ((c : Thread nD τ).loc main_arg0)
abbrev aSc : S1x2048.Idx → EReal := m ((c : Thread nD τ).loc main_arg1)
abbrev aSh : S1x2048.Idx → EReal := m ((c : Thread nD τ).loc main_arg2)

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(grid0.coords t 0).val, 0] := (by decide +kernel : ∀ t : Fin grid0.N, _)

variable (t : Fin cfg0.N)

/-- The row of the array at which a point's block has its row `r`. -/
def row (r : Fin 512) : Fin 16384 := ⟨512 * (grid0.coords t 0).val + r.val, by have : (grid0.coords t 0).val < 32 := (grid0.coords t 0).isLt; have := r.isLt; omega⟩

theorem blk_x (r : Fin 512) (j : Fin 2048) : (iblk m c 0 t : Vec Ideal S512x2048 .f32) (ix2 r j) = aX m c (ix2 (row t r) j) := by
  rw [← show (V m c main_arg0 : Vec Ideal S16384x2048 .f32) = aX m c from V_main_arg0 m c]
  blk_simp [iblk, idx0]
  refine congrArg (V m c main_arg0) ?_
  blk_ext [idx0, row]

theorem blk_sc (k : Fin 2048) : (iblk m c 1 t : Vec Ideal S1x2048 .f32) (ix2 0 k) = aSc m c (ix2 0 k) := by
  rw [← show (V m c main_arg1 : Vec Ideal S1x2048 .f32) = aSc m c from V_main_arg1 m c]
  blk_simp [iblk, idx1]
  refine congrArg (V m c main_arg1) ?_
  blk_ext [idx1]

theorem blk_sh (k : Fin 2048) : (iblk m c 2 t : Vec Ideal S1x2048 .f32) (ix2 0 k) = aSh m c (ix2 0 k) := by
  rw [← show (V m c main_arg2 : Vec Ideal S1x2048 .f32) = aSh m c from V_main_arg2 m c]
  blk_simp [iblk, idx2]
  refine congrArg (V m c main_arg2) ?_
  blk_ext [idx2]

/-- The result, index by index. -/
def result : S16384x2048.Idx → EReal := fun i => at' (aX m c) (aSc m c) (aSh m c) (i 0) (i 1)

/-- What a point writes at its row `r` and its column `n`. -/
theorem point (r : Fin 512) (n : Fin 2048) :
    k0_pay1 (F := Ideal) (iblk m c 0 t) (iblk m c 1 t) (iblk m c 2 t) (ix2 r n) = result m c (ix2 (row t r) n) := by
  rw [pay_at]
  simp only [blk_x m c t, blk_sc m c t, blk_sh m c t]
  rfl

theorem emb_o (r : Fin 512) (n : Fin 2048) : ((win0_3.blk t).view.emb (ix2 r n : S512x2048.Idx) : S16384x2048.Idx) = ix2 (row t r) n := by
  blk_ext [idx3, row]

/-- The kernel's result array ends holding the modulated layer norm of the rows. -/
theorem final : (dats m 0 c).arrAt 3 cfg0.N = result m c := by
  refine (dats m 0 c).arrAt_eq_of_covers 3 _ (by decide +kernel) fun t _ y => ?_
  blk_simp
  rw [after0_3]
  frame_out
  obtain ⟨r, n, rfl⟩ : ∃ (r : Fin 512) (n : Fin 2048), y = ix2 r n := ⟨y 0, y 1, eq_ix2 y⟩
  exact (point m c t r n).trans (congrArg (result m c) (emb_o t r n)).symm

end Cert.Kernel7Ideal.Mod

namespace Cert.Reference7Ideal.Mod

open Cert.Reference7Ideal Cert.Reference7Ideal.Gen Cert.Reference7Ideal.Read
open Cert.Kernel5Ideal.Merge (mean norm)
open Cert.Kernel7Ideal.Mod (at')

variable (X : S16384x2048.Idx → EReal) (sc sh : S1x2048.Idx → EReal)

/-- The means of the rows and of the squared distances. -/
theorem mean_at (r : Fin 16384) : val_main_v3 (F := Ideal) X (ix2 r 0) = mean fun k => X (ix2 r k) := by
  rw [val_main_v3_apply, val_main_v1_apply, val_main_v0_apply, val_main_v2_apply]
  exact congrArg₂ Ideal.div ((congrArg₂ (· + ·) Ideal.ofBits_zero_f32 (Finset.sum_congr rfl fun k _ => congrArg X (eq_ix2 _))).trans (zero_add _)) rfl

theorem var_at (r : Fin 16384) : val_main_v10 (F := Ideal) X (ix2 r 0) = mean fun k => val_main_v6 (F := Ideal) X (ix2 r k) := by
  rw [val_main_v10_apply, val_main_v8_apply, val_main_v7_apply, val_main_v9_apply]
  generalize val_main_v6 (F := Ideal) X = z
  exact congrArg₂ Ideal.div ((congrArg₂ (· + ·) Ideal.ofBits_zero_f32 (Finset.sum_congr rfl fun k _ => congrArg z (eq_ix2 _))).trans (zero_add _)) rfl

/-- The squared distances from the mean. -/
theorem square_at (r : Fin 16384) (n : Fin 2048) : val_main_v6 (F := Ideal) X (ix2 r n)
    = (X (ix2 r n) - mean fun k => X (ix2 r k)) * (X (ix2 r n) - mean fun k => X (ix2 r k)) := by
  rw [val_main_v6_apply, val_main_v5_apply, val_main_v4_apply, show idx_main_v4 (ix2 r n) = ix2 r 0 from (eq_ix2 _).trans (congrArg₂ ix2 rfl (Subsingleton.elim _ _)), mean_at]
  rfl

/-- The reference's result is the modulated layer norm. -/
theorem ref_at (r : Fin 16384) (n : Fin 2048) : val_main_v24 (F := Ideal) X sc sh (ix2 r n) = at' X sc sh r n := by
  rw [val_main_v24_apply, val_main_v23_apply, val_main_v21_apply, val_main_v22_apply, val_main_v20_apply, val_main_v19_apply, val_main_v18_apply,
    val_main_v17_apply, val_main_v12_apply, val_main_v11_apply, val_main_v16_apply,
    show idx_main_v11 (ix2 r n) = ix2 r 0 from (eq_ix2 _).trans (congrArg₂ ix2 rfl (Subsingleton.elim _ _)),
    show idx_main_v16 (ix2 r n) = ix2 r 0 from (eq_ix2 _).trans (congrArg₂ ix2 rfl (Subsingleton.elim _ _)), val_main_v15_apply, val_main_v14_apply, val_main_v13_apply,
    mean_at, var_at, funext fun k => square_at X r k]
  exact congrArg₂ (· + ·) (congrArg₂ (· * ·) rfl (congrArg₂ (· + ·) Ideal.ofBits_one_f32 (congrArg sc ((eq_ix2 _).trans (congrArg₂ ix2 (Subsingleton.elim _ _) rfl)))))
    (congrArg sh ((eq_ix2 _).trans (congrArg₂ ix2 (Subsingleton.elim _ _) rfl)))

end Cert.Reference7Ideal.Mod

end
-- ==== Proof.Ada.lean ====
/-
  The modulation: every block of the kernel's result is a block of columns of eight equal rows, the product of the activated
  condition with the weights plus the bias, and the reference's rows are the same.
-/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.Kernel8Ideal.Ada

open Cert.Kernel8Ideal Cert.Kernel8Ideal.Gen

/-- The activation: a number times its logistic function. -/
def act (x : EReal) : EReal := x * Ideal.div 1 (1 + Ideal.exp (-x))

/-- The call's result at column `n` of any of its rows. -/
def at' (C : S1x2048.Idx → EReal) (W : S2048x12288.Idx → EReal) (b : S12288.Idx → EReal) (n : Fin 12288) : EReal :=
  (∑ k : Fin 2048, act (C (ix2 0 k)) * W (ix2 k n)) + b (ix1 n)

/-- The payload, index by index. -/
theorem pay_at (x : Vec Ideal S8x2048 .f32) (w : Vec Ideal S2048x1024 .f32) (b : Vec Ideal S1x1024 .f32) (r : Fin 8) (n : Fin 1024) :
    k0_pay1 (F := Ideal) x w b (ix2 r n) = (∑ k : Fin 2048, act (x (ix2 r k)) * w (ix2 k n)) + b (ix2 0 n) := by
  unfold k0_pay1
  pointwise
  simp only [act, zero_sub]

variable (m : (ℓ : Loc nD τ sig) → Buf (Elt Ideal) ℓ) (c : Dev nD)

/-- The arguments. -/
abbrev aC : S1x2048.Idx → EReal := m ((c : Thread nD τ).loc main_arg0)
abbrev aW : S2048x12288.Idx → EReal := m ((c : Thread nD τ).loc main_arg1)
abbrev aB : S12288.Idx → EReal := m ((c : Thread nD τ).loc main_arg2)

/-- The condition, repeated in eight rows, and the bias as a row. -/
theorem V_c (r : Fin 8) (k : Fin 2048) : (V m c main_v0 : Vec Ideal S8x2048 .f32) (ix2 r k) = aC m c (ix2 0 k) := by
  unfold V
  after_results
  pointwise

theorem V_b (n : Fin 12288) : (V m c main_v1 : Vec Ideal S1x12288 .f32) (ix2 0 n) = aB m c (ix1 n) := by
  unfold V
  after_results
  pointwise

theorem idx0 : ∀ t : Fin cfg0.N, win0_0.index t = ![0, 0] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![0, (grid0.coords t 0).val] := (by decide +kernel : ∀ t : Fin grid0.N, _)
theorem idx3 : ∀ t : Fin cfg0.N, win0_3.index t = ![0, (grid0.coords t 0).val] := (by decide +kernel : ∀ t : Fin grid0.N, _)

variable (t : Fin cfg0.N)

/-- The column of the array at which a point's block has its column `n`. -/
def col (n : Fin 1024) : Fin 12288 := ⟨1024 * (grid0.coords t 0).val + n.val, by have : (grid0.coords t 0).val < 12 := (grid0.coords t 0).isLt; have := n.isLt; omega⟩

theorem blk_c (r : Fin 8) (k : Fin 2048) : (iblk m c 0 t : Vec Ideal S8x2048 .f32) (ix2 r k) = aC m c (ix2 0 k) := by
  rw [← V_c m c r]
  blk_simp [iblk, idx0]
  refine congrArg (V m c main_v0) ?_
  blk_ext [idx0]

theorem blk_w (k : Fin 2048) (n : Fin 1024) : (iblk m c 1 t : Vec Ideal S2048x1024 .f32) (ix2 k n) = aW m c (ix2 k (col t n)) := by
  rw [← show (V m c main_arg1 : Vec Ideal S2048x12288 .f32) = aW m c from V_main_arg1 m c]
  blk_simp [iblk, idx1]
  refine congrArg (V m c main_arg1) ?_
  blk_ext [idx1, col]

theorem blk_b (n : Fin 1024) : (iblk m c 2 t : Vec Ideal S1x1024 .f32) (ix2 0 n) = aB m c (ix1 (col t n)) := by
  rw [← V_b]
  blk_simp [iblk, idx2]
  refine congrArg (V m c main_v1) ?_
  blk_ext [idx2, col]

/-- The result, index by index. -/
def result : S8x12288.Idx → EReal := fun i => at' (aC m c) (aW m c) (aB m c) (i 1)

/-- What a point writes at its row `r` and its column `n`. -/
theorem point (r : Fin 8) (n : Fin 1024) :
    k0_pay1 (F := Ideal) (iblk m c 0 t) (iblk m c 1 t) (iblk m c 2 t) (ix2 r n) = result m c (ix2 r (col t n)) := by
  rw [pay_at]
  simp only [blk_c m c t, blk_w m c t, blk_b m c t]
  rfl

theorem emb_o (r : Fin 8) (n : Fin 1024) : ((win0_3.blk t).view.emb (ix2 r n : S8x1024.Idx) : S8x12288.Idx) = ix2 r (col t n) := by
  blk_ext [idx3, col]

/-- The kernel's result array ends holding eight times the modulation. -/
theorem final : (dats m 0 c).arrAt 3 cfg0.N = result m c := by
  refine (dats m 0 c).arrAt_eq_of_covers 3 _ (by decide +kernel) fun t _ y => ?_
  blk_simp
  rw [after0_3]
  frame_out
  obtain ⟨r, n, rfl⟩ : ∃ (r : Fin 8) (n : Fin 1024), y = ix2 r n := ⟨y 0, y 1, eq_ix2 y⟩
  exact (point m c t r n).trans (congrArg (result m c) (emb_o t r n)).symm

end Cert.Kernel8Ideal.Ada

namespace Cert.Reference8Ideal.Ada

open Cert.Reference8Ideal Cert.Reference8Ideal.Gen Cert.Reference8Ideal.Read
open Cert.Kernel8Ideal.Ada (act at')

variable (C : S1x2048.Idx → EReal) (W : S2048x12288.Idx → EReal) (b : S12288.Idx → EReal)

/-- The activated condition. -/
theorem act_at (i : S1x2048.Idx) : val_main_v0 (F := Ideal) C i = act (C i) := by
  rw [val_main_v0_apply, val_main_call0_v5_apply, val_main_call0_v4_apply, val_main_call0_v3_apply, val_main_call0_v2_apply, val_main_call0_v1_apply, val_main_call0_v0_apply]
  show C i * Ideal.div (Ideal.ofBits .f32 0x3F800000#32) (Ideal.ofBits .f32 0x3F800000#32 + Ideal.exp (-(C i))) = _
  rw [Ideal.ofBits_one_f32]
  rfl

/-- The reference's result. -/
theorem ref_at (r : Fin 8) (n : Fin 12288) : val_main_v4 (F := Ideal) C W b (ix2 r n) = at' C W b n := by
  rw [val_main_v4_apply, val_main_v3_apply, val_main_v2_apply, val_main_v1_apply]
  simp only [act_at]
  exact congrArg₂ (· + ·) (Finset.sum_congr rfl fun k _ => congrArg₂ (· * ·) (congrArg (act <| C ·) ((eq_ix2 _).trans (congrArg₂ ix2 (Subsingleton.elim _ _) rfl)))
    (congrArg W (eq_ix2 _))) (congrArg b (eq_ix1 _))

end Cert.Reference8Ideal.Ada

end
-- ==== Proof.Decay.lean ====
/-
  The running sum of the forget gates: the kernel's blocks of rows add up the logarithms of the sigmoids with a matrix of
  ones below the diagonal, each number cut in three parts, and carry the last row on; in exact arithmetic that is the sum
  over all rows up to the given one, which is the reference's window sum.
-/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.Decay

/-- The logarithm of the sigmoid, from the side on which the exponential cannot overflow. -/
def ls (x : EReal) : EReal := min x 0 - Ideal.log1p (Ideal.exp (0 - max x (-x)))

/-- The exponential is not negative, and the logarithm of one more than a number that is not negative is not negative. -/
theorem exp_nonneg (x : EReal) : 0 ≤ Ideal.exp x := by
  induction x with
  | bot => exact le_refl _
  | top => exact le_top
  | coe r => exact EReal.coe_nonneg.2 (Real.exp_nonneg r)

theorem log1p_nonneg (x : EReal) (h : 0 ≤ x) : 0 ≤ Ideal.log1p x := by
  unfold Ideal.log1p
  induction x with
  | bot => exact absurd h (by simp)
  | top => rw [show (1 : EReal) + ⊤ = ⊤ from rfl]; exact le_top
  | coe r =>
    have hr : 0 ≤ r := EReal.coe_nonneg.1 h
    rw [show (1 : EReal) + (r : EReal) = ((1 + r : ℝ) : EReal) from rfl, Ideal.log_coe, if_neg (by linarith)]
    exact EReal.coe_nonneg.2 (Real.log_nonneg (by linarith))

theorem ls_ne_top (x : EReal) : ls x ≠ ⊤ := by
  have h := log1p_nonneg _ (exp_nonneg (0 - max x (-x)))
  have hm : min x 0 ≤ 0 := min_le_right _ _
  unfold ls
  refine ne_of_lt (lt_of_le_of_lt (EReal.sub_le_sub hm h) ?_)
  simp

/-- A number other than the positive infinity, cut in three parts, is their sum. -/
theorem three (x : EReal) (h : x ≠ ⊤) : x + (x - x) + (x - x - (x - x)) = x := by
  induction x with
  | bot => rfl
  | top => exact absurd rfl h
  | coe r =>
    rw [← EReal.coe_sub, ← EReal.coe_sub, ← EReal.coe_add, ← EReal.coe_add]
    exact congrArg _ (by ring)

/-- The softplus of the opposite number, the other way round. -/
theorem ls_eq (x : EReal) : -(max (-x) 0 + Ideal.log1p (Ideal.exp (-(max (-x - 0) (-(-x - 0)))))) = ls x := by
  have h := log1p_nonneg _ (exp_nonneg (0 - max x (-x)))
  have e : -(max (-x - 0) (-(-x - 0))) = 0 - max x (-x) := by rw [sub_zero, neg_neg, zero_sub, max_comm]
  rw [e]
  unfold ls
  generalize Ideal.log1p _ = l at h
  have hm : 0 ≤ max (-x) 0 := le_max_right _ _
  rw [EReal.neg_add (Or.inl (fun e => by rw [e] at hm; simp at hm)) (Or.inr (fun e => by rw [e] at h; simp at h)),
    EReal.neg_strictAnti.antitone.map_max, neg_neg, neg_zero]

/-- A sum over a block's rows up to one of them. -/
theorem sum_upto (f : ℕ → EReal) (r n : ℕ) (h : r < n) : (∑ x : Fin n, if x.val ≤ r then f x.val else 0) = ∑ k ∈ Finset.range (r + 1), f k := by
  rw [Fin.sum_univ_eq_sum_range (fun x => if x ≤ r then f x else 0) n, ← Finset.sum_filter]
  refine Finset.sum_congr ?_ fun _ _ => rfl
  ext k
  rw [Finset.mem_filter, Finset.mem_range, Finset.mem_range]
  omega

/-- A left fold of sums. -/
theorem foldl_add {β : Type} (f : β → EReal) : ∀ (l : List β) (v : EReal), l.foldl (fun r n => r + f n) v = v + (l.map f).sum
  | [], v => by simp
  | a :: l, v => by rw [List.foldl_cons, foldl_add f l, List.map_cons, List.sum_cons, add_assoc]

/-- A sum over a window that ends at row `r` and begins before the first row. -/
theorem sum_window (f : ℕ → EReal) (r N : ℕ) (h : r < N) :
    (∑ k : Fin N, if N - 1 ≤ r + k.val then f (r + k.val - (N - 1)) else 0) = ∑ k ∈ Finset.range (r + 1), f k := by
  rw [Fin.sum_univ_eq_sum_range (fun k => if N - 1 ≤ r + k then f (r + k - (N - 1)) else 0) N, ← Finset.sum_filter]
  refine Finset.sum_nbij' (fun k => r + k - (N - 1)) (fun k => k + (N - 1) - r) ?_ ?_ ?_ ?_ ?_
  all_goals (intro k hk; simp only [Finset.mem_filter, Finset.mem_range] at hk ⊢; try omega)

/-- A running sum over the rows, as the sum over the rows up to the given one. -/
theorem cumsum_at {N M : ℕ} {u : Shape} (x : (⟨2, ![N, M]⟩ : Shape).Idx → EReal) (z : u.Idx → EReal) (hz : ∀ i, z i = 0)
    (hw : Shape.ReduceWindows (s := ⟨2, ![N, M]⟩) ![N, 1] ![1, 1] ![N - 1, 0] ![0, 0] ⟨2, ![N, M]⟩) (hu : 0 < u.numel)
    (r : Fin N) (n : Fin M) (g : ℕ → EReal) (hg : ∀ k : Fin N, x (ix2 k n) = g k.val) :
    Host.reduceWindowAdd (F := Ideal) (φ := .f32) ![N, 1] ![1, 1] ![N - 1, 0] ![0, 0] x z hw hu (ix2 r n) = ∑ k ∈ Finset.range (r.val + 1), g k := by
  rw [← sum_window g r.val N r.isLt]
  show Ideal.hostReduceWindowAdd ![N, 1] ![1, 1] ![N - 1, 0] ![0, 0] hw x (z (Shape.Idx.first hu)) (ix2 r n) = _
  unfold Ideal.hostReduceWindowAdd Host.reduceWindow
  rw [hz]
  dsimp only
  rw [foldl_add, zero_add, ← Fin.sum_univ_def]
  refine (Fintype.sum_equiv (Shape.rowMajor ⟨2, ![N, 1]⟩).symm _
    (fun y : (⟨2, ![N, 1]⟩ : Shape).Idx => if N - 1 ≤ r.val + (y 0).val then g (r.val + (y 0).val - (N - 1)) else 0) fun i => ?_).trans ?_
  · let y := (Shape.rowMajor ⟨2, ![N, 1]⟩).symm i
    have hr := r.isLt
    have hk : (y 0).val < N := (y 0).isLt
    have h1 : (y 1).val = 0 := by have h : (y 1).val < 1 := (y 1).isLt; omega
    by_cases h : N - 1 ≤ r.val + (y 0).val
    · refine Eq.trans (dif_pos (fun a => match a with
        | ⟨0, _⟩ => ⟨show N - 1 ≤ r.val * 1 + (y 0).val by omega, show r.val * 1 + (y 0).val - (N - 1) < N by omega⟩
        | ⟨1, _⟩ => ⟨Nat.zero_le _, show n.val * 1 + (y 1).val - 0 < M by have := n.isLt; omega⟩)) (Eq.trans ?_ (if_pos h).symm)
      refine Eq.trans (congrArg x ?_) (hg ⟨r.val + (y 0).val - (N - 1), by omega⟩)
      funext a
      exact match a with
        | ⟨0, _⟩ => Fin.ext (show r.val * 1 + (y 0).val - (N - 1) = r.val + (y 0).val - (N - 1) by omega)
        | ⟨1, _⟩ => Fin.ext (show n.val * 1 + (y 1).val - 0 = n.val by omega)
    · exact Eq.trans (dif_neg (fun hin => h (by have h0 : N - 1 ≤ r.val * 1 + (y 0).val := (hin 0).1; omega))) (if_neg h).symm
  · rw [sum_idx2]
    exact Finset.sum_congr rfl fun k _ => Fin.sum_univ_one _

/-- The bias of a column: the forget gates' columns have one. -/
def bias (b : (⟨1, ![8]⟩ : Shape).Idx → EReal) (n : Fin 128) : EReal :=
  if h : 24 ≤ n.val ∧ n.val < 32 then b (ix1 ⟨n.val - 24, by omega⟩) else 0

/-- The logarithm of the sigmoid at row `k` of a column (0 past the last row). -/
def term (z : (⟨2, ![16384, 128]⟩ : Shape).Idx → EReal) (b : (⟨1, ![8]⟩ : Shape).Idx → EReal) (n : Fin 128) (k : ℕ) : EReal :=
  if h : k < 16384 then ls (z (ix2 ⟨k, h⟩ n) + bias b n) else 0

/-- The call's result at row `r` of column `n`. -/
def at' (z : (⟨2, ![16384, 128]⟩ : Shape).Idx → EReal) (b : (⟨1, ![8]⟩ : Shape).Idx → EReal) (r : Fin 16384) (n : Fin 128) : EReal :=
  ∑ k ∈ Finset.range (r.val + 1), term z b n k

end Cert.Decay

namespace Cert.Kernel9Ideal.Decay

open Cert.Kernel9Ideal Cert.Kernel9Ideal.Gen Cert.Decay

/-- A block's payload: the sum of the logarithms over the block's rows up to the given one, and the carried row. -/
theorem pay_at (z : Vec Ideal S512x128 .f32) (b cr : Vec Ideal S1x128 .f32) (r : Fin 512) (n : Fin 128) :
    k0_pay3 (F := Ideal) z b cr (ix2 r n) = (∑ x : Fin 512, if x.val ≤ r.val then ls (z (ix2 x n) + b (ix2 0 n)) else 0) + cr (ix2 0 n) := by
  unfold k0_pay3
  pointwise
  refine congrArg (· + cr (ix2 0 n)) ?_
  rw [← Finset.sum_add_distrib, ← Finset.sum_add_distrib]
  refine Finset.sum_congr rfl fun x _ => ?_
  have h : IntOp.cmpi CmpIPredicate.sge (BitVec.ofNat 32 r.val) (BitVec.ofNat 32 x.val) = 1#1 ↔ x.val ≤ r.val :=
    WordCmp.cmpi_sge_ofNat_eq_one_iff (by have := r.isLt; omega) (by have := x.isLt; omega)
  by_cases hx : x.val ≤ r.val
  · rw [if_pos hx, Scalar.select_of_eq_one (h.2 hx), Scalar.select_of_eq_one (h.2 hx), Scalar.select_of_eq_one (h.2 hx)]
    exact three _ (ls_ne_top _)
  · rw [if_neg hx, Scalar.select_of_ne_one (fun e => hx (h.1 e)), Scalar.select_of_ne_one (fun e => hx (h.1 e)), Scalar.select_of_ne_one (fun e => hx (h.1 e)), add_zero, add_zero]

/-- The row that is carried on is the payload's last, and the row carried into the first block is 0. -/
theorem carry_at (z : Vec Ideal S512x128 .f32) (b cr : Vec Ideal S1x128 .f32) (n : Fin 128) :
    k0_pay1 (F := Ideal) (k0_pay4 z b cr) (ix2 0 n) = k0_pay3 z b cr (ix2 511 n) := by
  unfold k0_pay1 k0_pay4
  pointwise

theorem start_at (n : Fin 128) : k0_pay2 (F := Ideal) (ix2 0 n) = 0 := by
  unfold k0_pay2
  pointwise

variable (m : (ℓ : Loc nD τ sig) → Buf (Elt Ideal) ℓ) (c : Dev nD)

/-- What the points leave in their block and in the carried row. -/
theorem outs_zero (h : 0 < cfg0.N) : outsAt0 m c 0 h
    = (k0_pay3 (iblk m c 0 ⟨0, h⟩) (iblk m c 1 ⟨0, h⟩) (k0_pay2 (F := Ideal)), k0_pay1 (k0_pay4 (iblk m c 0 ⟨0, h⟩) (iblk m c 1 ⟨0, h⟩) (k0_pay2 (F := Ideal)))) := by
  rw [Value.outsAt0_zero, Value.stAt0_A m c ⟨0, h⟩ _ (Nat.zero_mod _)]
  refine Prod.ext ?_ ?_ <;> dsimp only <;> frame_out

theorem outs_succ (n : ℕ) (h : n + 1 < cfg0.N) : outsAt0 m c (n + 1) h
    = (k0_pay3 (iblk m c 0 ⟨n + 1, h⟩) (iblk m c 1 ⟨n + 1, h⟩) (outsAt0 m c n (by omega)).2,
        k0_pay1 (k0_pay4 (iblk m c 0 ⟨n + 1, h⟩) (iblk m c 1 ⟨n + 1, h⟩) (outsAt0 m c n (by omega)).2)) := by
  have hN := lt_of_lt_of_eq h (show cfg0.N = 32 from N_0)
  rw [Value.outsAt0_succ, Value.stAt0_B m c ⟨n + 1, h⟩ _ (by show ¬ (n + 1) % 32 = 0; omega)]
  generalize outsAt0 m c n _ = o
  refine Prod.ext ?_ ?_ <;> dsimp only <;> frame_out <;>
    rw [show View.read (Elt Ideal) (View.whole cc0_scratch0) (_) = o.2 from Memref.IsWhole.read_unread _ _]

/-- The arguments. -/
abbrev aZ : S16384x128.Idx → EReal := m ((c : Thread nD τ).loc main_arg0)
abbrev aB : S8.Idx → EReal := m ((c : Thread nD τ).loc main_arg1)

/-- The row of biases that the call reads: zeros, the forget gates' biases, zeros. -/
theorem V_b (n : Fin 128) : (V m c main_v3 : Vec Ideal S1x128 .f32) (ix2 0 n) = bias (aB m c) n := by
  unfold V bias
  after_results
  pointwise
  by_cases h : n.val < 24
  · refine (dif_pos h).trans (Eq.trans ?_ (dif_neg (by omega)).symm)
    after_results_simp
    pointwise
  · refine (dif_neg h).trans ?_
    by_cases h' : n.val - 24 < 8
    · refine (dif_pos h').trans (Eq.trans ?_ (dif_pos (by omega)).symm)
      after_results_simp
    · refine (dif_neg h').trans (Eq.trans ?_ (dif_neg (by omega)).symm)
      after_results_simp
      pointwise

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

variable (t : Fin cfg0.N)

/-- The row of the array at which a point's block has its row `r`. -/
def row (r : Fin 512) : Fin 16384 := ⟨512 * t.val + r.val, by have := lt_of_lt_of_eq t.isLt (show cfg0.N = 32 from N_0); have := r.isLt; omega⟩

theorem blk_z (r : Fin 512) (n : Fin 128) : (iblk m c 0 t : Vec Ideal S512x128 .f32) (ix2 r n) = aZ m c (ix2 (row t r) n) := by
  rw [← show (V m c main_arg0 : Vec Ideal S16384x128 .f32) = aZ m c from V_main_arg0 m c]
  blk_simp [iblk, idx0]
  refine congrArg (V m c main_arg0) ?_
  blk_ext [idx0, row]

theorem blk_b (n : Fin 128) : (iblk m c 1 t : Vec Ideal S1x128 .f32) (ix2 0 n) = bias (aB m c) n := by
  rw [← V_b]
  blk_simp [iblk, idx1]
  refine congrArg (V m c main_v3) ?_
  blk_ext [idx1]

/-- A block's sum over a carried row that holds the sum over all earlier rows is the sum over all rows up to the given one. -/
theorem step (cr : Vec Ideal S1x128 .f32) (n : Fin 128) (hc : cr (ix2 0 n) = ∑ k ∈ Finset.range (512 * t.val), term (aZ m c) (aB m c) n k) (r : Fin 512) :
    k0_pay3 (F := Ideal) (iblk m c 0 t) (iblk m c 1 t) cr (ix2 r n) = at' (aZ m c) (aB m c) (row t r) n := by
  have hb : ∀ x : Fin 512, ls (aZ m c (ix2 (row t x) n) + bias (aB m c) n) = term (aZ m c) (aB m c) n (512 * t.val + x.val) := fun x => by
    unfold term
    rw [dif_pos (show 512 * t.val + x.val < 16384 from (row t x).isLt)]
    rfl
  rw [pay_at, hc]
  simp only [blk_z m c t, blk_b m c t, hb]
  rw [sum_upto (fun k => term (aZ m c) (aB m c) n (512 * t.val + k)) r.val 512 r.isLt, add_comm, ← Finset.sum_range_add]
  rfl

/-- The row carried out of a point holds the sum over all rows up to the point's last. -/
theorem carried : ∀ (j : ℕ) (h : j < cfg0.N) (n : Fin 128), (outsAt0 m c j h).2 (ix2 0 n) = ∑ k ∈ Finset.range (512 * (j + 1)), term (aZ m c) (aB m c) n k
  | 0, h, n => by
    rw [outs_zero]
    exact (carry_at _ _ _ n).trans (step m c ⟨0, h⟩ _ n (start_at n) 511)
  | j + 1, h, n => by
    rw [outs_succ]
    exact (carry_at _ _ _ n).trans (step m c ⟨j + 1, h⟩ _ n (carried j _ n) 511)

/-- The block that a point writes. -/
theorem point : ∀ (j : ℕ) (h : j < cfg0.N) (r : Fin 512) (n : Fin 128), (outsAt0 m c j h).1 (ix2 r n) = at' (aZ m c) (aB m c) (row ⟨j, h⟩ r) n
  | 0, h, r, n => by
    rw [outs_zero]
    exact step m c ⟨0, h⟩ _ n (start_at n) r
  | j + 1, h, r, n => by
    rw [outs_succ]
    exact step m c ⟨j + 1, h⟩ _ n (carried m c j _ n) r

/-- The result, index by index. -/
def result : S16384x128.Idx → EReal := fun i => at' (aZ m c) (aB m c) (i 0) (i 1)

theorem emb_o (r : Fin 512) (n : Fin 128) : ((win0_2.blk t).view.emb (ix2 r n : S512x128.Idx) : S16384x128.Idx) = ix2 (row t r) n := by
  blk_ext [idx2, row]

/-- The kernel's result array ends holding the running sums. -/
theorem final : (dats m 0 c).arrAt 2 cfg0.N = result m c := by
  refine (dats m 0 c).arrAt_eq_of_covers 2 _ (by decide +kernel) fun t _ y => ?_
  blk_simp
  rw [after0_2]
  obtain ⟨r, n, rfl⟩ : ∃ (r : Fin 512) (n : Fin 128), y = ix2 r n := ⟨y 0, y 1, eq_ix2 y⟩
  exact (point m c t.val t.isLt r n).trans (congrArg (result m c) (emb_o t r n)).symm

end Cert.Kernel9Ideal.Decay

namespace Cert.Reference9Ideal.Decay

open Cert.Reference9Ideal Cert.Reference9Ideal.Gen Cert.Reference9Ideal.Read Cert.Decay

variable (z : S16384x128.Idx → EReal) (b : S8.Idx → EReal)

/-- The padded biases. -/
theorem bias_at (n : Fin 128) : val_main_v0 (F := Ideal) b (ix1 n) = bias b n := by
  have e : val_main_call0_v0 (F := Ideal) = fun _ => (0 : EReal) := by
    funext i
    rw [val_main_call0_v0_apply, val_main_c_apply]
    show (((0#32).toInt : ℝ) : EReal) = 0
    simp
  unfold val_main_v0 bias
  rw [e]
  pointwise
  by_cases h : 24 ≤ n.val ∧ n.val < 32
  · rw [dif_pos h]
    exact dif_pos (by omega)
  · rw [dif_neg h]
    exact dif_neg (by omega)

/-- The logarithms that the reference adds up. -/
theorem ls_at (k : Fin 16384) (n : Fin 128) : val_main_v4 (F := Ideal) z b (ix2 k n) = ls (z (ix2 k n) + bias b n) := by
  rw [val_main_v4_apply, val_main_call1_v1_apply, val_main_call1_call0_v11_apply, val_main_call1_call0_v10_apply, val_main_call1_call0_v9_apply,
    val_main_call1_call0_v8_apply, val_main_call1_call0_v7_apply, val_main_call1_call0_v4_apply, val_main_call1_call0_v3_apply,
    val_main_call1_call0_v1_apply, val_main_call1_v0_apply, val_main_v3_apply, val_main_v2_apply, val_main_v1_apply,
    show idx_main_v1 (idx_main_v2 (ix2 k n)) = ix1 n from eq_ix1 _, bias_at, val_main_call1_call0_v0_apply, val_main_call1_call0_v2_apply,
    val_main_call1_call0_cst_apply, show (FloatOps.ofBits .f32 0x00000000#32 : Ideal .f32) = (0 : EReal) from Ideal.ofBits_zero_f32, ← ls_eq]
  generalize val_main_call1_call0_v6 (F := Ideal) z b (ix2 k n) = w
  refine congrArg Neg.neg (Scalar.select_of_eq_zero ?_ _ _)
  exact congrArg BitVec.ofBool (decide_eq_false (fun h => h rfl))

/-- The reference's result is the running sum. -/
theorem ref_at (r : Fin 16384) (n : Fin 128) : val_main_v5 (F := Ideal) z b (ix2 r n) = at' z b r n := by
  unfold val_main_v5
  refine cumsum_at (N := 16384) (M := 128) _ _ (fun i => ?_) _ _ r n (term z b n) fun k => ?_
  · rw [val_main_call2_v0_apply]
    exact Ideal.ofBits_zero_f32
  · rw [ls_at]
    unfold term
    rw [dif_pos k.isLt]

end Cert.Reference9Ideal.Decay

end
-- ==== Proof.Compress.lean ====
/-
  The compression of the keys and values: a block of 32 rows, its positions' numbers added, goes through two layers. The
  kernel multiplies the two halves of a block and the positions' numbers one by one, each 16 rows only once, and moves the
  second halves' products up by one row; the reference multiplies the whole sum. They agree where the positions' numbers
  and the first layer's weights are finite.
-/
module

public import proofs.«01_k».proof.Proof.Gen.Kernel10Ideal.Value
public import proofs.«01_k».proof.Proof.Gen.Reference10Ideal.Read
public import proofs.«01_k».proof.Pre_finite_weights
public import proofs.«01_k».proof.Proof.Finite
public import Idealize.ShloMosaic.Lib.Pipeline.ValueKit

@[expose] public section

set_option maxRecDepth 16384

noncomputable section

open Idealize.ShloMosaic Idealize.ShloMosaic.TcCoe Idealize.ShloMosaic.Pointwise
open Idealize.ShloMosaic.Pipeline (Dat)

namespace Cert.Compress

/-- Keys and values; positions' numbers; the first layer's weights and bias; the second layer's weights. -/
abbrev SX : Shape := ⟨4, ![2, 2, 16384, 64]⟩
abbrev SP : Shape := ⟨3, ![2, 32, 64]⟩
abbrev SW : Shape := ⟨3, ![2, 2048, 256]⟩
abbrev SB : Shape := ⟨2, ![2, 256]⟩
abbrev SU : Shape := ⟨3, ![2, 256, 64]⟩

variable (X : SX.Idx → EReal) (P : SP.Idx → EReal) (W : SW.Idx → EReal) (B : SB.Idx → EReal) (U : SU.Idx → EReal)

/-- Sixteen rows side by side: number `k` of the `n`-th sixteen. -/
def rows (z g : Fin 2) (n k : Fin 1024) : EReal :=
  X (ix4 z g ⟨16 * n.val + k.val / 64, by have := n.isLt; have := k.isLt; omega⟩ ⟨k.val % 64, Nat.mod_lt _ (by decide)⟩)

/-- Laid out row after row, that number has the same place in the array of the rows and in that of the sixteens. -/
theorem rows_idx (z g : Fin 2) (n k : Fin 1024) :
    (SX.rowMajor (ix4 z g ⟨16 * n.val + k.val / 64, by have := n.isLt; have := k.isLt; omega⟩ ⟨k.val % 64, Nat.mod_lt _ (by decide)⟩)).val
      = ((⟨4, ![2, 2, 1024, 1024]⟩ : Shape).rowMajor (ix4 z g n k)).val := by
  rw [Shape.rowMajor_val_four, Shape.rowMajor_val_four]
  show ((z.val * 2 + g.val) * 16384 + (16 * n.val + k.val / 64)) * 64 + k.val % 64 = ((z.val * 2 + g.val) * 1024 + n.val) * 1024 + k.val
  omega

/-- The sixteen rows after the `n`-th; after the last come the first. -/
def next (n : Fin 1024) : Fin 1024 := ⟨(n.val + 1) % 1024, Nat.mod_lt _ (by decide)⟩

/-- The positions' numbers side by side. -/
def pos (z : Fin 2) (k : Fin 2048) : EReal :=
  P (ix3 z ⟨k.val / 64, by have := k.isLt; omega⟩ ⟨k.val % 64, Nat.mod_lt _ (by decide)⟩)

/-- A number of the first and of the second half of a block. -/
def lo (k : Fin 1024) : Fin 2048 := ⟨k.val, by have := k.isLt; omega⟩
def hi (k : Fin 1024) : Fin 2048 := ⟨1024 + k.val, by have := k.isLt; omega⟩

/-- The first layer before its activation: the halves' products, the positions' products, the bias. -/
def hid (z g : Fin 2) (n : Fin 1024) (h : Fin 256) : EReal :=
  (∑ k, rows X z g n k * W (ix3 z (lo k) h)) + (∑ k, rows X z g (next n) k * W (ix3 z (hi k) h))
    + ((∑ k, pos P z (lo k) * W (ix3 z (lo k) h)) + ∑ k, pos P z (hi k) * W (ix3 z (hi k) h)) + B (ix2 z h)

/-- The activation. -/
def gelu (x : EReal) : EReal :=
  Ideal.ofBits .f32 0x3F000000#32 * x * (1
    + Ideal.tanh (Ideal.ofBits .f32 0x3F4C422A#32 * (x + Ideal.ofBits .f32 0x3D372713#32 * (x * x * x))))

/-- The compressed block `n` in lane `d`. -/
def at' (z g : Fin 2) (n : Fin 1024) (d : Fin 64) : EReal := ∑ h, gelu (hid X P W B z g n h) * U (ix3 z h d)

end Cert.Compress

namespace Cert.Kernel10Ideal.Cmp

open Cert.Kernel10Ideal Cert.Kernel10Ideal.Gen Cert.Compress

variable (x : Vec Ideal S1x1x1024x1024 .bf16) (wa wb : Vec Ideal S1x1024x256 .bf16) (p : Vec Ideal S1x8x2048 .bf16) (b : Vec Ideal S1x1x256 .f32)
  (u : Vec Ideal S1x256x64 .bf16)

/-- Moving the rows up by one. -/
theorem rotate_at (y : FVec Ideal S1024x256 .f32) (n : Fin 1024) (h : Fin 256) :
    dynamicRotate 0 1023#32 none y rotates_S1024x256_d0 (ix2 n h) = y (ix2 (next n) h) := by
  unfold dynamicRotate
  refine congrArg y (funext fun a => ?_)
  fin_cases a
  · exact Fin.ext (by show (n.val + 1024 - (1023 + 0) % 1024) % 1024 = (n.val + 1) % 1024; rfl)
  · rfl

/-- The first layer before its activation. -/
theorem pay2_at (n : Fin 1024) (h : Fin 256) : k0_pay2 (F := Ideal) x wa wb p b (ix2 n h)
    = (∑ k : Fin 1024, x (ix4 0 0 n k) * wa (ix3 0 k h)) + (∑ k : Fin 1024, x (ix4 0 0 (next n) k) * wb (ix3 0 k h))
      + ((∑ k, p (ix3 0 0 (lo k)) * wa (ix3 0 k h)) + ∑ k, p (ix3 0 0 (hi k)) * wb (ix3 0 k h)) + b (ix3 0 0 h) := by
  have e : ∀ y : FVec Ideal S1024x256 .f32, (dynamicRotate 0 1023#32 none y rotates_S1024x256_d0 : FVec Ideal S1024x256 .f32) = fun i => y (ix2 (next (i 0)) (i 1)) :=
    fun y => funext fun i => (congrArg _ (eq_ix2 i)).trans (rotate_at y (i 0) (i 1))
  unfold k0_pay2
  rw [e]
  pointwise
  rfl

theorem pay3_at (n : Fin 1024) (h : Fin 256) : k0_pay3 (F := Ideal) x wa wb p b (ix2 n h)
    = Ideal.ofBits .f32 0x3F000000#32 * k0_pay2 (F := Ideal) x wa wb p b (ix2 n h) := by
  unfold k0_pay3
  generalize k0_pay2 (F := Ideal) x wa wb p b = y
  pointwise

theorem pay4_at (n : Fin 1024) (h : Fin 256) : k0_pay4 (F := Ideal) x wa wb p b (ix2 n h)
    = (fun x => Ideal.tanh (Ideal.ofBits .f32 0x3F4C422A#32 * (x + Ideal.ofBits .f32 0x3D372713#32 * (x * x * x)))) (k0_pay2 (F := Ideal) x wa wb p b (ix2 n h)) := by
  unfold k0_pay4
  generalize k0_pay2 (F := Ideal) x wa wb p b = y
  pointwise

/-- The stored block. -/
theorem pay1_at (n : Fin 1024) (d : Fin 64) : k0_pay1 (F := Ideal) (k0_pay3 (F := Ideal) x wa wb p b) (k0_pay4 (F := Ideal) x wa wb p b) u (ix4 0 0 n d)
    = ∑ h, gelu (k0_pay2 (F := Ideal) x wa wb p b (ix2 n h)) * u (ix3 0 h d) := by
  have h3 := fun h => pay3_at x wa wb p b n h
  have h4 := fun h => pay4_at x wa wb p b n h
  unfold k0_pay1
  generalize k0_pay3 (F := Ideal) x wa wb p b = y3 at *
  generalize k0_pay4 (F := Ideal) x wa wb p b = y4 at *
  pointwise
  refine Finset.sum_congr rfl fun h _ => ?_
  rw [h3, h4]
  rfl

variable (m : (ℓ : Loc nD τ sig) → Buf (Elt Ideal) ℓ) (c : Dev nD)

/-- The arguments. -/
abbrev aX : SX.Idx → EReal := m ((c : Thread nD τ).loc main_arg0)
abbrev aP : SP.Idx → EReal := m ((c : Thread nD τ).loc main_arg1)
abbrev aW : SW.Idx → EReal := m ((c : Thread nD τ).loc main_arg2)
abbrev aB : SB.Idx → EReal := m ((c : Thread nD τ).loc main_arg3)
abbrev aU : SU.Idx → EReal := m ((c : Thread nD τ).loc main_arg4)

/-! ## The operands of the call, from the arguments -/

theorem V_x (z g : Fin 2) (n k : Fin 1024) : (V m c main_v0 : Vec Ideal S2x2x1024x1024 .bf16) (ix4 z g n k) = rows (aX m c) z g n k := by
  unfold V
  after_results
  exact shapeCast_apply (aX m c) shapeCasts_S2x2x16384x64_S2x2x1024x1024 (ix4 z g n k) _ (rows_idx z g n k)

theorem V_p (z : Fin 2) (r : Fin 8) (k : Fin 2048) : (V m c main_v3 : Vec Ideal S2x8x2048 .bf16) (ix3 z r k) = pos (aP m c) z k := by
  unfold V
  after_results
  pointwise
  rfl

theorem V_w (z : Fin 2) (k : Fin 2048) (h : Fin 256) : (V m c main_v4 : Vec Ideal S2x2048x256 .bf16) (ix3 z k h) = aW m c (ix3 z k h) := by
  unfold V
  after_results
  pointwise

theorem V_b (z : Fin 2) (h : Fin 256) : (V m c main_v5 : Vec Ideal S2x1x256 .f32) (ix3 z 0 h) = aB m c (ix2 z h) := by
  unfold V
  after_results
  pointwise

theorem V_u (z : Fin 2) (h : Fin 256) (d : Fin 64) : (V m c main_v6 : Vec Ideal S2x256x64 .bf16) (ix3 z h d) = aU m c (ix3 z h d) := by
  unfold V
  after_results
  pointwise

/-! ## The blocks a grid point reads -/

theorem idx0 : ∀ t : Fin cfg0.N, win0_0.index t = ![(grid0.coords t 0).val, (grid0.coords t 1).val, 0, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, 1, 0] := (by decide +kernel : ∀ t : Fin grid0.N, _)
theorem idx4 : ∀ t : Fin cfg0.N, win0_4.index t = ![(grid0.coords t 0).val, 0, 0] := (by decide +kernel : ∀ t : Fin grid0.N, _)
theorem idx5 : ∀ t : Fin cfg0.N, win0_5.index t = ![(grid0.coords t 0).val, 0, 0] := (by decide +kernel : ∀ t : Fin grid0.N, _)
theorem idx6 : ∀ t : Fin cfg0.N, win0_6.index t = ![(grid0.coords t 0).val, (grid0.coords t 1).val, 0, 0] := (by decide +kernel : ∀ t : Fin grid0.N, _)

variable (t : Fin cfg0.N)

/-- Whether a point has the keys or the values, and its group. -/
def zt : Fin 2 := grid0.coords t 0
def gt : Fin 2 := grid0.coords t 1

theorem blk_x (n k : Fin 1024) : (iblk m c 0 t : Vec Ideal S1x1x1024x1024 .bf16) (ix4 0 0 n k) = rows (aX m c) (zt t) (gt t) n k := by
  rw [← V_x]
  blk_simp [iblk, idx0]
  refine congrArg (V m c main_v0) ?_
  blk_ext [idx0, zt, gt]

theorem blk_p (r : Fin 8) (k : Fin 2048) : (iblk m c 1 t : Vec Ideal S1x8x2048 .bf16) (ix3 0 r k) = pos (aP m c) (zt t) k := by
  rw [← V_p m c (zt t) r k]
  blk_simp [iblk, idx1]
  refine congrArg (V m c main_v3) ?_
  blk_ext [idx1, zt]

theorem blk_wa (k : Fin 1024) (h : Fin 256) : (iblk m c 2 t : Vec Ideal S1x1024x256 .bf16) (ix3 0 k h) = aW m c (ix3 (zt t) (lo k) h) := by
  rw [← V_w]
  blk_simp [iblk, idx2]
  refine congrArg (V m c main_v4) ?_
  blk_ext [idx2, zt, lo]

theorem blk_wb (k : Fin 1024) (h : Fin 256) : (iblk m c 3 t : Vec Ideal S1x1024x256 .bf16) (ix3 0 k h) = aW m c (ix3 (zt t) (hi k) h) := by
  rw [← V_w]
  blk_simp [iblk, idx3]
  refine congrArg (V m c main_v4) ?_
  blk_ext [idx3, zt, hi]

theorem blk_b (h : Fin 256) : (iblk m c 4 t : Vec Ideal S1x1x256 .f32) (ix3 0 0 h) = aB m c (ix2 (zt t) h) := by
  rw [← V_b]
  blk_simp [iblk, idx4]
  refine congrArg (V m c main_v5) ?_
  blk_ext [idx4, zt]

theorem blk_u (h : Fin 256) (d : Fin 64) : (iblk m c 5 t : Vec Ideal S1x256x64 .bf16) (ix3 0 h d) = aU m c (ix3 (zt t) h d) := by
  rw [← V_u]
  blk_simp [iblk, idx5]
  refine congrArg (V m c main_v6) ?_
  blk_ext [idx5, zt]

/-- The result, index by index. -/
def result : S2x2x1024x64.Idx → EReal := fun i => at' (aX m c) (aP m c) (aW m c) (aB m c) (aU m c) (i 0) (i 1) (i 2) (i 3)

/-- What a point writes at its row `n` and its lane `d`. -/
theorem point (n : Fin 1024) (d : Fin 64) :
    k0_pay1 (F := Ideal) (k0_pay3 (F := Ideal) (iblk m c 0 t) (iblk m c 2 t) (iblk m c 3 t) (iblk m c 1 t) (iblk m c 4 t))
      (k0_pay4 (F := Ideal) (iblk m c 0 t) (iblk m c 2 t) (iblk m c 3 t) (iblk m c 1 t) (iblk m c 4 t)) (iblk m c 5 t) (ix4 0 0 n d)
      = result m c (ix4 (zt t) (gt t) n d) := by
  rw [pay1_at]
  simp only [pay2_at, blk_x m c t, blk_p m c t, blk_wa m c t, blk_wb m c t, blk_b m c t, blk_u m c t]
  rfl

theorem emb_o (n : Fin 1024) (d : Fin 64) : ((win0_6.blk t).view.emb (ix4 0 0 n d : S1x1x1024x64.Idx) : S2x2x1024x64.Idx) = ix4 (zt t) (gt t) n d := by
  blk_ext [idx6, zt, gt]

/-- The kernel's result array ends holding the compressed blocks. -/
theorem final : (dats m 0 c).arrAt 6 cfg0.N = result m c := by
  refine (dats m 0 c).arrAt_eq_of_covers 6 _ (by decide +kernel) fun t _ y => ?_
  blk_simp
  rw [after0_6]
  frame_out
  obtain ⟨n, d, rfl⟩ : ∃ (n : Fin 1024) (d : Fin 64), y = ix4 (0 : Fin 1) (0 : Fin 1) n d :=
    ⟨y 2, y 3, (eq_ix4 y).trans (by rw [show y 0 = (0 : Fin 1) from Subsingleton.elim (α := Fin 1) _ _, show y 1 = (0 : Fin 1) from Subsingleton.elim (α := Fin 1) _ _])⟩
  exact (point m c t n d).trans (congrArg (result m c) (emb_o t n d)).symm

end Cert.Kernel10Ideal.Cmp

namespace Cert.Compress

open Cert.Fox (finite_of_abs)

/-- The side conditions the precondition's operations take. -/
theorem preFacts : Cert.Pre_finite_weights.Facts where
  bcast_S_S2x32x64 := by decide
  bcast_S_S2x2048x256 := by decide

attribute [local instance] preFacts in
/-- Where the precondition holds, the positions' numbers and the first layer's weights are finite. -/
theorem finite_of_pre (X : SX.Idx → EReal) (P : SP.Idx → EReal) (W : SW.Idx → EReal) (B : SB.Idx → EReal) (U : SU.Idx → EReal)
    (h1 : (Cert.Pre_finite_weights.fn (F := Ideal) X P W B U).1 = fun _ => 1#1)
    (h2 : (Cert.Pre_finite_weights.fn (F := Ideal) X P W B U).2 = fun _ => 1#1) :
    (∀ i, P i ≠ ⊤ ∧ P i ≠ ⊥) ∧ ∀ i, W i ≠ ⊤ ∧ W i ≠ ⊥ := by
  refine ⟨fun i => ?_, fun i => ?_⟩
  · have h := congrFun h1 i
    unfold Cert.Pre_finite_weights.fn at h
    exact finite_of_abs _ h
  · have h := congrFun h2 i
    unfold Cert.Pre_finite_weights.fn at h
    exact finite_of_abs _ h

/-- A real number's product with a sum of which one term is real. -/
theorem add_mul_real (a : EReal) (b w : ℝ) : (a + (b : EReal)) * (w : EReal) = a * w + (b : EReal) * w := by
  induction a with
  | coe a => norm_cast; ring
  | top =>
    rw [EReal.top_add_coe]
    rcases lt_trichotomy w 0 with h | rfl | h
    · rw [EReal.top_mul_coe_of_neg h, ← EReal.coe_mul, EReal.bot_add]
    · simp
    · rw [EReal.top_mul_coe_of_pos h, ← EReal.coe_mul, EReal.top_add_coe]
  | bot =>
    rw [EReal.bot_add]
    rcases lt_trichotomy w 0 with h | rfl | h
    · rw [EReal.bot_mul_coe_of_neg h, ← EReal.coe_mul, EReal.top_add_coe]
    · simp
    · rw [EReal.bot_mul_coe_of_pos h, ← EReal.coe_mul, EReal.bot_add]

/-- The first layer on the sums of the blocks and the positions' numbers is the kernel's sum of products. -/
theorem hid_eq (X : SX.Idx → EReal) (P : SP.Idx → EReal) (W : SW.Idx → EReal) (B : SB.Idx → EReal)
    (hP : ∀ i, P i ≠ ⊤ ∧ P i ≠ ⊥) (hW : ∀ i, W i ≠ ⊤ ∧ W i ≠ ⊥) (z g : Fin 2) (n : Fin 1024) (h : Fin 256) (b : Fin 2048 → EReal)
    (hlo : ∀ k, b (lo k) = rows X z g n k) (hhi : ∀ k, b (hi k) = rows X z g (next n) k) :
    (∑ k, (b k + pos P z k) * W (ix3 z k h)) + B (ix2 z h) = hid X P W B z g n h := by
  have e : ∀ k, (b k + pos P z k) * W (ix3 z k h) = b k * W (ix3 z k h) + pos P z k * W (ix3 z k h) := fun k => by
    have h1 := hP (ix3 z ⟨k.val / 64, by have := k.isLt; omega⟩ ⟨k.val % 64, Nat.mod_lt _ (by decide)⟩)
    have h2 := hW (ix3 z k h)
    unfold pos
    rw [← EReal.coe_toReal h1.1 h1.2, ← EReal.coe_toReal h2.1 h2.2]
    exact add_mul_real _ _ _
  have s : ∀ f : Fin 2048 → EReal, ∑ k, f k = (∑ k, f (lo k)) + ∑ k, f (hi k) := fun f => Fin.sum_univ_add (a := 1024) (b := 1024) f
  simp only [e, Finset.sum_add_distrib]
  rw [s fun k => b k * W (ix3 z k h), s fun k => pos P z k * W (ix3 z k h)]
  simp only [hlo, hhi]
  rfl

end Cert.Compress

namespace Cert.Reference10Ideal.Cmp

open Cert.Reference10Ideal Cert.Reference10Ideal.Gen Cert.Reference10Ideal.Read Cert.Compress

variable (X : SX.Idx → EReal) (P : SP.Idx → EReal) (W : SW.Idx → EReal) (B : SB.Idx → EReal) (U : SU.Idx → EReal)

/-- Sixteen rows side by side. -/
theorem rows_at (z g : Fin 2) (n k : Fin 1024) : val_main_v1 (F := Ideal) X (ix4 z g n k) = rows X z g n k := by
  exact shapeCast_apply (val_main_v0 (F := Ideal) X) shapeCasts_S2x2x16384x64_S2x2x1024x1024 (ix4 z g n k) _ (rows_idx z g n k)

/-- The sixteen rows after them. -/
theorem next_at (z g : Fin 2) (n k : Fin 1024) : val_main_v4 (F := Ideal) X (ix4 z g n k) = rows X z g (next n) k := by
  have h1 := rows_at X z g
  unfold val_main_v4 val_main_v2 val_main_v3
  generalize val_main_v1 (F := Ideal) X = y at *
  pointwise
  have hn := n.isLt
  split
  · next h =>
    rw [h1]
    exact congrArg (rows X z g · k) (Fin.ext (by show 1 + n.val = (n.val + 1) % 1024; omega))
  · next h =>
    rw [h1]
    exact congrArg (rows X z g · k) (Fin.ext (by show n.val - 1023 = (n.val + 1) % 1024; omega))

/-- A block: its first and its second half. -/
theorem lo_at (z g : Fin 2) (n k : Fin 1024) : val_main_v5 (F := Ideal) X (ix4 z g n (lo k)) = rows X z g n k := by
  have h1 := rows_at X z g n k
  unfold val_main_v5
  generalize val_main_v1 (F := Ideal) X = y at *
  generalize val_main_v4 (F := Ideal) X = y' at *
  pointwise
  exact (dif_pos (show (lo k).val < 1024 from k.isLt)).trans h1

theorem hi_at (z g : Fin 2) (n k : Fin 1024) : val_main_v5 (F := Ideal) X (ix4 z g n (hi k)) = rows X z g (next n) k := by
  have h1 := next_at X z g n k
  unfold val_main_v5
  generalize val_main_v1 (F := Ideal) X = y at *
  generalize val_main_v4 (F := Ideal) X = y' at *
  pointwise
  refine (dif_neg (show ¬ (hi k).val < 1024 from Nat.not_lt.mpr (Nat.le_add_right _ _))).trans (Eq.trans (congrArg y' ?_) h1)
  exact congrArg (ix4 z g n) (Fin.ext (Nat.add_sub_cancel_left 1024 k.val))

/-- The positions' numbers, side by side and repeated for every block. -/
theorem pos_at (z g : Fin 2) (n : Fin 1024) (k : Fin 2048) : val_main_v7 (F := Ideal) P (ix4 z g n k) = pos P z k := by
  unfold val_main_v7 val_main_v6
  pointwise
  rfl

variable {P W} (hP : ∀ i, P i ≠ ⊤ ∧ P i ≠ ⊥) (hW : ∀ i, W i ≠ ⊤ ∧ W i ≠ ⊥)
include hP hW

/-- The first layer before its activation. -/
theorem hid_at (z g : Fin 2) (n : Fin 1024) (h : Fin 256) : val_main_v12 (F := Ideal) X P W B (ix4 z g n h) = hid X P W B z g n h := by
  rw [← hid_eq X P W B hP hW z g n h (fun k => val_main_v5 (F := Ideal) X (ix4 z g n k)) (lo_at X z g n) (hi_at X z g n),
    val_main_v12_apply, val_main_v9_apply, val_main_v11_apply, val_main_v10_apply]
  refine congrArg₂ (· + ·) (Finset.sum_congr rfl fun k _ => ?_) (congrArg B (eq_ix2 _))
  rw [val_main_v8_apply, show lidx_main_v9 (ix4 z g n h) k = ix4 z g n k from eq_ix4 _, pos_at]
  exact congrArg (_ * W ·) (eq_ix3 _)

/-- The reference's result is the compressed block. -/
theorem ref_at (z g : Fin 2) (n : Fin 1024) (d : Fin 64) : val_main_v26 (F := Ideal) X P W B U (ix4 z g n d) = at' X P W B U z g n d := by
  have hh := hid_at X B hP hW z g n
  rw [val_main_v26_apply]
  refine Finset.sum_congr rfl fun h _ => congrArg₂ (· * ·) ?_ (congrArg U (eq_ix3 _))
  rw [show lidx_main_v26 (ix4 z g n d) h = ix4 z g n h from eq_ix4 _, ← hh]
  unfold val_main_v25 val_main_v24 val_main_v23 val_main_v22 val_main_v21 val_main_v20 val_main_v19 val_main_v18 val_main_v17 val_main_v16 val_main_v15
    val_main_v14 val_main_v13 val_main_cst_2 val_main_cst_1 val_main_cst_0 val_main_cst
  generalize val_main_v12 (F := Ideal) X P W B = y
  pointwise
  exact (mul_left_comm _ _ _).trans (mul_assoc _ _ _).symm

end Cert.Reference10Ideal.Cmp

end
-- ==== Proof.lean ====
/- The certificate of nine of the layer's calls (the forgetting attention, the three products of the input projection, the
   merge with its projection and layer norm, the first and the last norm, the modulation, the running sum of the decays): the frames, the named mask constant,
   and for each call the equation of the kernel's and the reference's results over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.KArr
public import proofs.«01_k».proof.Proof.Ref
public import proofs.«01_k».proof.Proof.Finite
public import Idealize.ShloMosaic.Adequacy
public import Idealize.ShloMosaic.Init
public import proofs.«01_k».proof.Proof.ProjAttn
public import proofs.«01_k».proof.Proof.ProjSmall
public import proofs.«01_k».proof.Proof.ProjMerge
public import proofs.«01_k».proof.Proof.MergeNorm
public import proofs.«01_k».proof.Proof.LastNorm
public import proofs.«01_k».proof.Proof.ModNorm
public import proofs.«01_k».proof.Proof.Ada
public import proofs.«01_k».proof.Proof.Decay
public import proofs.«01_k».proof.Proof.Compress

@[expose] public section

noncomputable section

namespace Cert.Proof

open Idealize.ShloMosaic Idealize.ShloMosaic.Pointwise Idealize.SL.Sem

attribute [local instance] Cert.Fox.preFacts Cert.Compress.preFacts

/-- The reference runs, leaves its arguments unchanged and has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- With finite queries, keys and decays the kernel's result is the reference's: both are the attention of every head's row. -/
theorem algebraic : Cert.algebraic_KernelIdeal_ReferenceIdeal_pre_finite_scores := by
  intro m g m' g' hpre hagree
  have hfin := fun c => Cert.Fox.finite_of_pre _ _ (hpre c).1 (hpre c).2
  refine ⟨fun c => Cert.KernelIdeal.Fox.result m c, ?_, ?_⟩
  · exact (θ_run Cert.KernelIdeal.defs _ _).mono (fun _ h c => ⟨(h c).1.trans (Cert.KernelIdeal.Fox.final m c (hfin c)), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v43_eq]
    obtain ⟨h0, h1⟩ := hagree c
    refine (congrArg₂ (Cert.ReferenceIdeal.Read.val_main_v43 (F := Ideal)) h0 h1).trans ?_
    funext i
    obtain ⟨a, b, d, rfl⟩ : ∃ (a : Fin 8) (b : Fin 16384) (d : Fin 64), i = ix3 a b d := ⟨i 0, i 1, i 2, eq_ix3 i⟩
    exact Cert.ReferenceIdeal.Fox.ref_at (hfin c) a b d

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- For the projection onto the attentions' operands both programs end with the product with the weights' columns. -/
theorem algebraic2 : Cert.algebraic_Kernel2Ideal_Reference2Ideal := by
  intro m g m' g' _ hagree
  refine ⟨fun c => Cert.Kernel2Ideal.Proj.result m c, ?_, ?_⟩
  · exact (θ_run Cert.Kernel2Ideal.defs _ _).mono (fun _ h c => ⟨(h c).1.trans (Cert.Kernel2Ideal.Proj.final m c), (h c).2⟩)
      (Cert.Kernel2Ideal.Value.run_blocks (F := Ideal) m g)
  · refine (θ_run Cert.Reference2Ideal.defs _ _).mono (fun _ h c => ⟨(h c).1.trans ?_, (h c).2⟩)
      (Cert.Reference2Ideal.Value.run (F := Ideal) m' g')
    rw [Cert.Reference2Ideal.Read.val_main_v16_eq]
    obtain ⟨h0, h1⟩ := hagree c
    refine (congrArg₂ (Cert.Reference2Ideal.Read.val_main_v16 (F := Ideal)) h0 h1).trans ?_
    funext i
    obtain ⟨r, n, rfl⟩ : ∃ (r : Fin 16384) (n : Fin 2816), i = ix2 r n := ⟨i 0, i 1, eq_ix2 i⟩
    exact Cert.Reference2Ideal.Proj.ref_at _ _ r n

theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- For the projection onto the small gates both programs end with the product with the weights' columns. -/
theorem algebraic3 : Cert.algebraic_Kernel3Ideal_Reference3Ideal := by
  intro m g m' g' _ hagree
  refine ⟨fun c => Cert.Kernel3Ideal.Proj.result m c, ?_, ?_⟩
  · exact (θ_run Cert.Kernel3Ideal.defs _ _).mono (fun _ h c => ⟨(h c).1.trans (Cert.Kernel3Ideal.Proj.final m c), (h c).2⟩)
      (Cert.Kernel3Ideal.Value.run_blocks (F := Ideal) m g)
  · refine (θ_run Cert.Reference3Ideal.defs _ _).mono (fun _ h c => ⟨(h c).1.trans ?_, (h c).2⟩)
      (Cert.Reference3Ideal.Value.run (F := Ideal) m' g')
    rw [Cert.Reference3Ideal.Read.val_main_v9_eq]
    obtain ⟨h0, h1⟩ := hagree c
    refine (congrArg₂ (Cert.Reference3Ideal.Read.val_main_v9 (F := Ideal)) h0 h1).trans ?_
    funext i
    obtain ⟨r, n, rfl⟩ : ∃ (r : Fin 16384) (n : Fin 128), i = ix2 r n := ⟨i 0, i 1, eq_ix2 i⟩
    exact Cert.Reference3Ideal.Proj.ref_at _ _ r n

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- For the projection onto the merge gates both programs end with the product with the weights' columns. -/
theorem algebraic4 : Cert.algebraic_Kernel4Ideal_Reference4Ideal := by
  intro m g m' g' _ hagree
  refine ⟨fun c => Cert.Kernel4Ideal.Proj.result m c, ?_, ?_⟩
  · exact (θ_run Cert.Kernel4Ideal.defs _ _).mono (fun _ h c => ⟨(h c).1.trans (Cert.Kernel4Ideal.Proj.final m c), (h c).2⟩)
      (Cert.Kernel4Ideal.Value.run_blocks (F := Ideal) m g)
  · refine (θ_run Cert.Reference4Ideal.defs _ _).mono (fun _ h c => ⟨(h c).1.trans ?_, (h c).2⟩)
      (Cert.Reference4Ideal.Value.run (F := Ideal) m' g')
    rw [Cert.Reference4Ideal.Read.val_main_v8_eq]
    obtain ⟨h0, h1⟩ := hagree c
    refine (congrArg₂ (Cert.Reference4Ideal.Read.val_main_v8 (F := Ideal)) h0 h1).trans ?_
    funext i
    obtain ⟨r, n, rfl⟩ : ∃ (r : Fin 16384) (n : Fin 4096), i = ix2 r n := ⟨i 0, i 1, eq_ix2 i⟩
    exact Cert.Reference4Ideal.Proj.ref_at _ _ r n

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- For the merge both programs end with the layer norm of the merged rows' projection added to the scaled input. -/
theorem algebraic5 : Cert.algebraic_Kernel5Ideal_Reference5Ideal := by
  intro m g m' g' _ hagree
  refine ⟨fun c => Cert.Kernel5Ideal.Merge.result m c, ?_, ?_⟩
  · exact (θ_run Cert.Kernel5Ideal.defs _ _).mono (fun _ h c => ⟨(h c).1.trans (Cert.Kernel5Ideal.Merge.final m c), (h c).2⟩)
      (Cert.Kernel5Ideal.Value.run_blocks (F := Ideal) m g)
  · refine (θ_run Cert.Reference5Ideal.defs _ _).mono (fun _ h c => ⟨(h c).1.trans ?_, (h c).2⟩)
      (Cert.Reference5Ideal.Value.run (F := Ideal) m' g')
    obtain ⟨h0, h1, h2, h3, h4, h5, h6, h7, h8, h9⟩ := hagree c
    rw [Cert.Reference5Ideal.Read.val_main_v47_eq, h0, h1, h2, h3, h4, h5, h6, h7, h8, h9]
    funext i
    obtain ⟨r, n, rfl⟩ : ∃ (r : Fin 16384) (n : Fin 2048), i = ix2 r n := ⟨i 0, i 1, eq_ix2 i⟩
    exact Cert.Reference5Ideal.Merge.ref_at _ _ _ _ _ _ _ _ _ _ r n

theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- For the last norm both programs end with the layer norm of the scaled input plus the gated sum of the tokens' two rows. -/
theorem algebraic6 : Cert.algebraic_Kernel6Ideal_Reference6Ideal := by
  intro m g m' g' _ hagree
  refine ⟨fun c => Cert.Kernel6Ideal.Last.result m c, ?_, ?_⟩
  · exact (θ_run Cert.Kernel6Ideal.defs _ _).mono (fun _ h c => ⟨(h c).1.trans (Cert.Kernel6Ideal.Last.final m c), (h c).2⟩)
      (Cert.Kernel6Ideal.Value.run_blocks (F := Ideal) m g)
  · refine (θ_run Cert.Reference6Ideal.defs _ _).mono (fun _ h c => ⟨(h c).1.trans ?_, (h c).2⟩)
      (Cert.Reference6Ideal.Value.run (F := Ideal) m' g')
    obtain ⟨h0, h1, h2, h3, h4⟩ := hagree c
    rw [Cert.Reference6Ideal.Read.val_main_v32_eq, h0, h1, h2, h3, h4]
    funext i
    obtain ⟨r, n, rfl⟩ : ∃ (r : Fin 16384) (n : Fin 2048), i = ix2 r n := ⟨i 0, i 1, eq_ix2 i⟩
    exact Cert.Reference6Ideal.Last.ref_at _ _ _ _ _ r n

theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- For the first norm both programs end with the rows' layer norm, scaled and shifted. -/
theorem algebraic7 : Cert.algebraic_Kernel7Ideal_Reference7Ideal := by
  intro m g m' g' _ hagree
  refine ⟨fun c => Cert.Kernel7Ideal.Mod.result m c, ?_, ?_⟩
  · exact (θ_run Cert.Kernel7Ideal.defs _ _).mono (fun _ h c => ⟨(h c).1.trans (Cert.Kernel7Ideal.Mod.final m c), (h c).2⟩)
      (Cert.Kernel7Ideal.Value.run_blocks (F := Ideal) m g)
  · refine (θ_run Cert.Reference7Ideal.defs _ _).mono (fun _ h c => ⟨(h c).1.trans ?_, (h c).2⟩)
      (Cert.Reference7Ideal.Value.run (F := Ideal) m' g')
    obtain ⟨h0, h1, h2⟩ := hagree c
    rw [Cert.Reference7Ideal.Read.val_main_v24_eq, h0, h1, h2]
    funext i
    obtain ⟨r, n, rfl⟩ : ∃ (r : Fin 16384) (n : Fin 2048), i = ix2 r n := ⟨i 0, i 1, eq_ix2 i⟩
    exact Cert.Reference7Ideal.Mod.ref_at _ _ _ r n

theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- For the modulation both programs end with eight times the activated condition's product with the weights plus the bias. -/
theorem algebraic8 : Cert.algebraic_Kernel8Ideal_Reference8Ideal := by
  intro m g m' g' _ hagree
  refine ⟨fun c => Cert.Kernel8Ideal.Ada.result m c, ?_, ?_⟩
  · exact (θ_run Cert.Kernel8Ideal.defs _ _).mono (fun _ h c => ⟨(h c).1.trans (Cert.Kernel8Ideal.Ada.final m c), (h c).2⟩)
      (Cert.Kernel8Ideal.Value.run_blocks (F := Ideal) m g)
  · refine (θ_run Cert.Reference8Ideal.defs _ _).mono (fun _ h c => ⟨(h c).1.trans ?_, (h c).2⟩)
      (Cert.Reference8Ideal.Value.run (F := Ideal) m' g')
    obtain ⟨h0, h1, h2⟩ := hagree c
    rw [Cert.Reference8Ideal.Read.val_main_v4_eq, h0, h1, h2]
    funext i
    obtain ⟨r, n, rfl⟩ : ∃ (r : Fin 8) (n : Fin 12288), i = ix2 r n := ⟨i 0, i 1, eq_ix2 i⟩
    exact Cert.Reference8Ideal.Ada.ref_at _ _ _ r n

theorem frame_reference9 : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- For the decays both programs end with the sums over all rows up to each of the logarithms of the sigmoids. -/
theorem algebraic9 : Cert.algebraic_Kernel9Ideal_Reference9Ideal := by
  intro m g m' g' _ hagree
  refine ⟨fun c => Cert.Kernel9Ideal.Decay.result m c, ?_, ?_⟩
  · exact (θ_run Cert.Kernel9Ideal.defs _ _).mono (fun _ h c => ⟨(h c).1.trans (Cert.Kernel9Ideal.Decay.final m c), (h c).2⟩)
      (Cert.Kernel9Ideal.Value.run_blocks (F := Ideal) m g)
  · refine (θ_run Cert.Reference9Ideal.defs _ _).mono (fun _ h c => ⟨(h c).1.trans ?_, (h c).2⟩)
      (Cert.Reference9Ideal.Value.run (F := Ideal) m' g')
    obtain ⟨h0, h1⟩ := hagree c
    rw [Cert.Reference9Ideal.Read.val_main_v5_eq, h0, h1]
    funext i
    obtain ⟨r, n, rfl⟩ : ∃ (r : Fin 16384) (n : Fin 128), i = ix2 r n := ⟨i 0, i 1, eq_ix2 i⟩
    exact Cert.Reference9Ideal.Decay.ref_at _ _ r n

theorem frame_reference10 : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

/-- For the compression, with finite positions' numbers and first weights, both programs end with the blocks through the two layers. -/
theorem algebraic10 : Cert.algebraic_Kernel10Ideal_Reference10Ideal_pre_finite_weights := by
  intro m g m' g' hpre hagree
  have hfin := fun c => Cert.Compress.finite_of_pre _ _ _ _ _ (hpre c).1 (hpre c).2
  refine ⟨fun c => Cert.Kernel10Ideal.Cmp.result m c, ?_, ?_⟩
  · exact (θ_run Cert.Kernel10Ideal.defs _ _).mono (fun _ h c => ⟨(h c).1.trans (Cert.Kernel10Ideal.Cmp.final m c), (h c).2⟩)
      (Cert.Kernel10Ideal.Value.run_blocks (F := Ideal) m g)
  · refine (θ_run Cert.Reference10Ideal.defs _ _).mono (fun _ h c => ⟨(h c).1.trans ?_, (h c).2⟩)
      (Cert.Reference10Ideal.Value.run (F := Ideal) m' g')
    obtain ⟨h0, h1, h2, h3, h4⟩ := hagree c
    rw [Cert.Reference10Ideal.Read.val_main_v26_eq, h0, h1, h2, h3, h4]
    funext i
    obtain ⟨z, q, n, d, rfl⟩ : ∃ (z q : Fin 2) (n : Fin 1024) (d : Fin 64), i = ix4 z q n d := ⟨i 0, i 1, i 2, i 3, eq_ix4 i⟩
    exact Cert.Reference10Ideal.Cmp.ref_at _ _ _ (hfin c).1 (hfin c).2 z q n d

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Fox.preFacts, Cert.Compress.preFacts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  fun m g _ => Cert.Kernel2.Gen.frame m g,
  fun m g _ => Cert.Kernel2Ideal.Gen.frame m g,
  frame_reference2,
  fun m g _ => Cert.Kernel3.Gen.frame m g,
  fun m g _ => Cert.Kernel3Ideal.Gen.frame m g,
  frame_reference3,
  fun m g _ => Cert.Kernel4.Gen.frame m g,
  fun m g _ => Cert.Kernel4Ideal.Gen.frame m g,
  frame_reference4,
  fun m g _ => Cert.Kernel5.Gen.frame m g,
  fun m g _ => Cert.Kernel5Ideal.Gen.frame m g,
  frame_reference5,
  fun m g _ => Cert.Kernel6.Gen.frame m g,
  fun m g _ => Cert.Kernel6Ideal.Gen.frame m g,
  frame_reference6,
  fun m g _ => Cert.Kernel7.Gen.frame m g,
  fun m g _ => Cert.Kernel7Ideal.Gen.frame m g,
  frame_reference7,
  fun m g _ => Cert.Kernel8.Gen.frame m g,
  fun m g _ => Cert.Kernel8Ideal.Gen.frame m g,
  frame_reference8,
  fun m g _ => Cert.Kernel9.Gen.frame m g,
  fun m g _ => Cert.Kernel9Ideal.Gen.frame m g,
  frame_reference9,
  fun m g _ => Cert.Kernel10.Gen.frame m g,
  fun m g _ => Cert.Kernel10Ideal.Gen.frame m g,
  fun m g _ => Cert.Kernel10Ideal.Gen.frame m g,
  frame_reference10,
  fun m g _ => frame_reference10 m g trivial,
  IdealRules.named_const.statement Cert.KernelIdeal.κ "mask" .f32 0xF149F2CA#32 ⊥ rfl,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10⟩

end Cert.Proof

end
